-- ==== Defs.lean ====
def Pre_Kernel [hPre_cat_in_range : Cert.Pre_cat_in_range.Facts] (m : (ℓ : Loc Cert.Kernel.nD Cert.Kernel.τ Cert.Kernel.sig) → Buf (Elt Bits) ℓ) : Prop :=
  ∀ c : Dev Cert.Kernel.nD,
    (Cert.Pre_cat_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_cat_in_range : Cert.Pre_cat_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_cat_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cat_in_range [hPre_cat_in_range : Cert.Pre_cat_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cat_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_cat_in_range : Cert.Pre_cat_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_cat_in_range : Cert.Pre_cat_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_cat_in_range [hReferenceIdeal : Cert.ReferenceIdeal.Facts] [hPre_cat_in_range : Cert.Pre_cat_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cat_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_cat_in_range : Cert.Pre_cat_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_cat_in_range : Cert.Pre_cat_in_range.Facts),
    quiescent_Kernel (hKernel := hKernel) (hPre_cat_in_range := hPre_cat_in_range)
    ∧ quiescent_KernelIdeal (hKernelIdeal := hKernelIdeal) (hPre_cat_in_range := hPre_cat_in_range)
    ∧ quiescent_ReferenceIdeal (hReferenceIdeal := hReferenceIdeal)
    ∧ quiescent_ReferenceIdeal_pre_cat_in_range (hReferenceIdeal := hReferenceIdeal) (hPre_cat_in_range := hPre_cat_in_range)
    ∧ preserves_Kernel_KernelIdeal
    ∧ algebraic_KernelIdeal_ReferenceIdeal (hKernelIdeal := hKernelIdeal) (hReferenceIdeal := hReferenceIdeal) (hPre_cat_in_range := hPre_cat_in_range)
-- ==== Pre_cat_in_range.lean ====
abbrev S16384x39 : Shape := ⟨2, ![16384, 39]⟩
abbrev S16384x3 : Shape := ⟨2, ![16384, 3]⟩
abbrev S133x10 : Shape := ⟨2, ![133, 10]⟩
abbrev S13x6 : Shape := ⟨2, ![13, 6]⟩
abbrev S9x4 : Shape := ⟨2, ![9, 4]⟩
abbrev S200x59 : Shape := ⟨2, ![200, 59]⟩
abbrev S200 : Shape := ⟨1, ![200]⟩
abbrev S100x200 : Shape := ⟨2, ![100, 200]⟩
abbrev S100 : Shape := ⟨1, ![100]⟩
abbrev S50x100 : Shape := ⟨2, ![50, 100]⟩
abbrev S50 : Shape := ⟨1, ![50]⟩
abbrev S20x50 : Shape := ⟨2, ![20, 50]⟩
abbrev S20 : Shape := ⟨1, ![20]⟩
abbrev S2x20 : Shape := ⟨2, ![2, 20]⟩
abbrev S2 : Shape := ⟨1, ![2]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x39 .f32) (main_arg1 : IVec S16384x3 32) (main_arg2 : FVec F S133x10 .f32) (main_arg3 : FVec F S13x6 .f32) (main_arg4 : FVec F S9x4 .f32) (main_arg5 : FVec F S200x59 .f32) (main_arg6 : FVec F S200 .f32) (main_arg7 : FVec F S100x200 .f32) (main_arg8 : FVec F S100 .f32) (main_arg9 : FVec F S50x100 .f32) (main_arg10 : FVec F S50 .f32) (main_arg11 : FVec F S20x50 .f32) (main_arg12 : FVec F S20 .f32) (main_arg13 : FVec F S2x20 .f32) (main_arg14 : FVec F S2 .f32) : IVec S_ 1 :=
  let main_c : IVec S_ 32 := constantI S_ 32 0#32
  let main_v0 : IVec S16384x3 32 := broadcastInDim S16384x3 ![] bcast_S_S16384x3 main_c
  let main_v1 : IVec S16384x3 1 := cmpi .sge main_arg1 main_v0
  let main_c_0 : IVec S_ 32 := constantI S_ 32 9#32
  let main_v2 : IVec S16384x3 32 := broadcastInDim S16384x3 ![] bcast_S_S16384x3 main_c_0
  let main_v3 : IVec S16384x3 1 := cmpi .slt main_arg1 main_v2
  let main_v4 : IVec S16384x3 1 := andi main_v1 main_v3
  let main_c_1 : IVec S_ 1 := constantI S_ 1 1#1
  let main_v5 : IVec S_ 1 := (fun x v => Host.reduce IntOp.andi x v reducesTo_S16384x3_S_d0_1 h_S_) main_v4 main_c_1
  main_v5
-- ==== Kernel.lean ====
abbrev S16384x39 : Shape := ⟨2, ![16384, 39]⟩
abbrev S16384x3 : Shape := ⟨2, ![16384, 3]⟩
abbrev S133x10 : Shape := ⟨2, ![133, 10]⟩
abbrev S13x6 : Shape := ⟨2, ![13, 6]⟩
abbrev S9x4 : Shape := ⟨2, ![9, 4]⟩
abbrev S200x59 : Shape := ⟨2, ![200, 59]⟩
abbrev S200 : Shape := ⟨1, ![200]⟩
abbrev S100x200 : Shape := ⟨2, ![100, 200]⟩
abbrev S100 : Shape := ⟨1, ![100]⟩
abbrev S50x100 : Shape := ⟨2, ![50, 100]⟩
abbrev S50 : Shape := ⟨1, ![50]⟩
abbrev S20x50 : Shape := ⟨2, ![20, 50]⟩
abbrev S20 : Shape := ⟨1, ![20]⟩
abbrev S2x20 : Shape := ⟨2, ![2, 20]⟩
abbrev S2 : Shape := ⟨1, ![2]⟩
abbrev S3x16384 : Shape := ⟨2, ![3, 16384]⟩
abbrev S10x133 : Shape := ⟨2, ![10, 133]⟩
abbrev S6x13 : Shape := ⟨2, ![6, 13]⟩
abbrev S4x9 : Shape := ⟨2, ![4, 9]⟩
abbrev S16384x20 : Shape := ⟨2, ![16384, 20]⟩
abbrev S3x512 : Shape := ⟨2, ![3, 512]⟩
abbrev S512x20 : Shape := ⟨2, ![512, 20]⟩
abbrev S_ : Shape := ⟨0, ![]⟩
abbrev S16 : Shape := ⟨1, ![16]⟩
abbrev S59x200 : Shape := ⟨2, ![59, 200]⟩
abbrev S39x16384 : Shape := ⟨2, ![39, 16384]⟩
abbrev S20x200 : Shape := ⟨2, ![20, 200]⟩
abbrev S39x200 : Shape := ⟨2, ![39, 200]⟩
abbrev S200x100 : Shape := ⟨2, ![200, 100]⟩
abbrev S2x16384 : Shape := ⟨2, ![2, 16384]⟩
abbrev S39x4096 : Shape := ⟨2, ![39, 4096]⟩
abbrev S4096x20 : Shape := ⟨2, ![4096, 20]⟩
abbrev S2x4096 : Shape := ⟨2, ![2, 4096]⟩
abbrev S4096x200 : Shape := ⟨2, ![4096, 200]⟩
abbrev S1x200 : Shape := ⟨2, ![1, 200]⟩
abbrev S4096x100 : Shape := ⟨2, ![4096, 100]⟩
abbrev S1x100 : Shape := ⟨2, ![1, 100]⟩
abbrev S4096x50 : Shape := ⟨2, ![4096, 50]⟩
abbrev S1x50 : Shape := ⟨2, ![1, 50]⟩
abbrev S1x20 : Shape := ⟨2, ![1, 20]⟩
abbrev S2x1 : Shape := ⟨2, ![2, 1]⟩
abbrev S4096 : Shape := ⟨1, ![4096]⟩
abbrev S1x4096 : Shape := ⟨2, ![1, 4096]⟩
abbrev S16384x2 : Shape := ⟨2, ![16384, 2]⟩

abbrev nBuf : Table → Nat
  | .hbm => 27
  | .local .tc .vmem => 17
  | .local .scVector .vmem => 5
  | _ => 0

abbrev bufTy : (tb : Table) → Fin (nBuf tb) → BufTy
  | .hbm, ⟨0, _⟩ => ⟨S16384x39, .f32⟩
  | .hbm, ⟨1, _⟩ => ⟨S16384x3, .i32⟩
  | .hbm, ⟨2, _⟩ => ⟨S133x10, .f32⟩
  | .hbm, ⟨3, _⟩ => ⟨S13x6, .f32⟩
  | .hbm, ⟨4, _⟩ => ⟨S9x4, .f32⟩
  | .hbm, ⟨5, _⟩ => ⟨S200x59, .f32⟩
  | .hbm, ⟨6, _⟩ => ⟨S200, .f32⟩
  | .hbm, ⟨7, _⟩ => ⟨S100x200, .f32⟩
  | .hbm, ⟨8, _⟩ => ⟨S100, .f32⟩
  | .hbm, ⟨9, _⟩ => ⟨S50x100, .f32⟩
  | .hbm, ⟨10, _⟩ => ⟨S50, .f32⟩
  | .hbm, ⟨11, _⟩ => ⟨S20x50, .f32⟩
  | .hbm, ⟨12, _⟩ => ⟨S20, .f32⟩
  | .hbm, ⟨13, _⟩ => ⟨S2x20, .f32⟩
  | .hbm, ⟨14, _⟩ => ⟨S2, .f32⟩
  | .hbm, ⟨15, _⟩ => ⟨S3x16384, .i32⟩
  | .hbm, ⟨16, _⟩ => ⟨S10x133, .f32⟩
  | .hbm, ⟨17, _⟩ => ⟨S6x13, .f32⟩
  | .hbm, ⟨18, _⟩ => ⟨S4x9, .f32⟩
  | .hbm, ⟨19, _⟩ => ⟨S16384x20, .f32⟩
  | .hbm, ⟨20, _⟩ => ⟨S59x200, .f32⟩
  | .hbm, ⟨21, _⟩ => ⟨S39x16384, .f32⟩
  | .hbm, ⟨22, _⟩ => ⟨S20x200, .f32⟩
  | .hbm, ⟨23, _⟩ => ⟨S39x200, .f32⟩
  | .hbm, ⟨24, _⟩ => ⟨S200x100, .f32⟩
  | .hbm, ⟨25, _⟩ => ⟨S2x16384, .f32⟩
  | .hbm, ⟨26, _⟩ => ⟨S16384x2, .f32⟩
  | .local .tc .vmem, ⟨0, _⟩ => ⟨S39x4096, .f32⟩
  | .local .tc .vmem, ⟨1, _⟩ => ⟨S39x4096, .f32⟩
  | .local .tc .vmem, ⟨2, _⟩ => ⟨S4096x20, .f32⟩
  | .local .tc .vmem, ⟨3, _⟩ => ⟨S4096x20, .f32⟩
  | .local .tc .vmem, ⟨4, _⟩ => ⟨S20x200, .f32⟩
  | .local .tc .vmem, ⟨5, _⟩ => ⟨S39x200, .f32⟩
  | .local .tc .vmem, ⟨6, _⟩ => ⟨S200, .f32⟩
  | .local .tc .vmem, ⟨7, _⟩ => ⟨S200x100, .f32⟩
  | .local .tc .vmem, ⟨8, _⟩ => ⟨S100, .f32⟩
  | .local .tc .vmem, ⟨9, _⟩ => ⟨S50x100, .f32⟩
  | .local .tc .vmem, ⟨10, _⟩ => ⟨S50, .f32⟩
  | .local .tc .vmem, ⟨11, _⟩ => ⟨S20x50, .f32⟩
  | .local .tc .vmem, ⟨12, _⟩ => ⟨S20, .f32⟩
  | .local .tc .vmem, ⟨13, _⟩ => ⟨S2x20, .f32⟩
  | .local .tc .vmem, ⟨14, _⟩ => ⟨S2, .f32⟩
  | .local .tc .vmem, ⟨15, _⟩ => ⟨S2x4096, .f32⟩
  | .local .tc .vmem, ⟨16, _⟩ => ⟨S2x4096, .f32⟩
  | .local .scVector .vmem, ⟨0, _⟩ => ⟨S3x512, .i32⟩
  | .local .scVector .vmem, ⟨1, _⟩ => ⟨S10x133, .f32⟩
  | .local .scVector .vmem, ⟨2, _⟩ => ⟨S6x13, .f32⟩
  | .local .scVector .vmem, ⟨3, _⟩ => ⟨S4x9, .f32⟩
  | .local .scVector .vmem, ⟨4, _⟩ => ⟨S512x20, .f32⟩
  | _, _ => ⟨S16384x39, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v0_scv : Ref sig .scVector := ⟨.hbm, 15, rfl⟩
abbrev main_v1_scv : Ref sig .scVector := ⟨.hbm, 16, rfl⟩
abbrev main_v2_scv : Ref sig .scVector := ⟨.hbm, 17, rfl⟩
abbrev main_v3_scv : Ref sig .scVector := ⟨.hbm, 18, rfl⟩
abbrev main_v4_scv : Ref sig .scVector := ⟨.hbm, 19, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg13_0 : Ref sig .tc := ⟨.vmem, 15, rfl⟩
abbrev cc1_stg13_1 : Ref sig .tc := ⟨.vmem, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem13_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k0_t1_loop : Scf.Loop 32 :=
  let c0_i32_4 : BitVec 32 := 0#32
  let c32_i32 : BitVec 32 := 32#32
  let v8 : BitVec 32 := Scalar.addi c0_i32_4 c32_i32
  let c1_i32 : BitVec 32 := 1#32
  ⟨c0_i32_4, v8, c1_i32⟩

def k0_chk1 (v11 : IVec S16 32) (v12 : IVec S16 32) : Prop :=
  (∀ a x, ((![v12, v11] : Fin 2 → IVec S16 32) a x).toNat < S3x512.size a)
theorem k0_idx1_inb : ∀ (v11 : IVec S16 32) (v12 : IVec S16 32) (k0_hw1 : k0_chk1 v11 v12), ∀ a x, ((![v12, v11] : Fin 2 → IVec S16 32) a x).toNat < S3x512.size a := fun v11 v12 k0_hw1 => k0_hw1

def k0_chk2 (v11 : IVec S16 32) (v14 : IVec S16 32) : Prop :=
  (∀ a x, ((![v14, v11] : Fin 2 → IVec S16 32) a x).toNat < S3x512.size a)
theorem k0_idx2_inb : ∀ (v11 : IVec S16 32) (v14 : IVec S16 32) (k0_hw2 : k0_chk2 v11 v14), ∀ a x, ((![v14, v11] : Fin 2 → IVec S16 32) a x).toNat < S3x512.size a := fun v11 v14 k0_hw2 => k0_hw2

def k0_chk3 (v11 : IVec S16 32) (v16 : IVec S16 32) : Prop :=
  (∀ a x, ((![v16, v11] : Fin 2 → IVec S16 32) a x).toNat < S3x512.size a)
theorem k0_idx3_inb : ∀ (v11 : IVec S16 32) (v16 : IVec S16 32) (k0_hw3 : k0_chk3 v11 v16), ∀ a x, ((![v16, v11] : Fin 2 → IVec S16 32) a x).toNat < S3x512.size a := fun v11 v16 k0_hw3 => k0_hw3

def k0_chk4 (v13 : IVec S16 32) (v18 : IVec S16 32) : Prop :=
  (∀ a x, ((![v18, v13] : Fin 2 → IVec S16 32) a x).toNat < S10x133.size a)
theorem k0_idx4_inb : ∀ (v13 : IVec S16 32) (v18 : IVec S16 32) (k0_hw4 : k0_chk4 v13 v18), ∀ a x, ((![v18, v13] : Fin 2 → IVec S16 32) a x).toNat < S10x133.size a := fun v13 v18 k0_hw4 => k0_hw4

def k0_chk5 (v11 : IVec S16 32) (v20 : IVec S16 32) : Prop :=
  (∀ a x, ((![v11, v20] : Fin 2 → IVec S16 32) a x).toNat < S512x20.size a)
theorem k0_idx5_inb : ∀ (v11 : IVec S16 32) (v20 : IVec S16 32) (k0_hw5 : k0_chk5 v11 v20), ∀ a x, ((![v11, v20] : Fin 2 → IVec S16 32) a x).toNat < S512x20.size a := fun v11 v20 k0_hw5 => k0_hw5

def k0_chk6 (v13 : IVec S16 32) (v21 : IVec S16 32) : Prop :=
  (∀ a x, ((![v21, v13] : Fin 2 → IVec S16 32) a x).toNat < S10x133.size a)
theorem k0_idx6_inb : ∀ (v13 : IVec S16 32) (v21 : IVec S16 32) (k0_hw6 : k0_chk6 v13 v21), ∀ a x, ((![v21, v13] : Fin 2 → IVec S16 32) a x).toNat < S10x133.size a := fun v13 v21 k0_hw6 => k0_hw6

def k0_chk7 (v11 : IVec S16 32) (v23 : IVec S16 32) : Prop :=
  (∀ a x, ((![v11, v23] : Fin 2 → IVec S16 32) a x).toNat < S512x20.size a)
theorem k0_idx7_inb : ∀ (v11 : IVec S16 32) (v23 : IVec S16 32) (k0_hw7 : k0_chk7 v11 v23), ∀ a x, ((![v11, v23] : Fin 2 → IVec S16 32) a x).toNat < S512x20.size a := fun v11 v23 k0_hw7 => k0_hw7

def k0_chk8 (v13 : IVec S16 32) (v24 : IVec S16 32) : Prop :=
  (∀ a x, ((![v24, v13] : Fin 2 → IVec S16 32) a x).toNat < S10x133.size a)
theorem k0_idx8_inb : ∀ (v13 : IVec S16 32) (v24 : IVec S16 32) (k0_hw8 : k0_chk8 v13 v24), ∀ a x, ((![v24, v13] : Fin 2 → IVec S16 32) a x).toNat < S10x133.size a := fun v13 v24 k0_hw8 => k0_hw8

def k0_chk9 (v11 : IVec S16 32) (v26 : IVec S16 32) : Prop :=
  (∀ a x, ((![v11, v26] : Fin 2 → IVec S16 32) a x).toNat < S512x20.size a)
theorem k0_idx9_inb : ∀ (v11 : IVec S16 32) (v26 : IVec S16 32) (k0_hw9 : k0_chk9 v11 v26), ∀ a x, ((![v11, v26] : Fin 2 → IVec S16 32) a x).toNat < S512x20.size a := fun v11 v26 k0_hw9 => k0_hw9

def k0_chk10 (v13 : IVec S16 32) (v27 : IVec S16 32) : Prop :=
  (∀ a x, ((![v27, v13] : Fin 2 → IVec S16 32) a x).toNat < S10x133.size a)
theorem k0_idx10_inb : ∀ (v13 : IVec S16 32) (v27 : IVec S16 32) (k0_hw10 : k0_chk10 v13 v27), ∀ a x, ((![v27, v13] : Fin 2 → IVec S16 32) a x).toNat < S10x133.size a := fun v13 v27 k0_hw10 => k0_hw10

def k0_chk11 (v11 : IVec S16 32) (v29 : IVec S16 32) : Prop :=
  (∀ a x, ((![v11, v29] : Fin 2 → IVec S16 32) a x).toNat < S512x20.size a)
theorem k0_idx11_inb : ∀ (v11 : IVec S16 32) (v29 : IVec S16 32) (k0_hw11 : k0_chk11 v11 v29), ∀ a x, ((![v11, v29] : Fin 2 → IVec S16 32) a x).toNat < S512x20.size a := fun v11 v29 k0_hw11 => k0_hw11

def k0_chk12 (v13 : IVec S16 32) (v30 : IVec S16 32) : Prop :=
  (∀ a x, ((![v30, v13] : Fin 2 → IVec S16 32) a x).toNat < S10x133.size a)
theorem k0_idx12_inb : ∀ (v13 : IVec S16 32) (v30 : IVec S16 32) (k0_hw12 : k0_chk12 v13 v30), ∀ a x, ((![v30, v13] : Fin 2 → IVec S16 32) a x).toNat < S10x133.size a := fun v13 v30 k0_hw12 => k0_hw12

def k0_chk13 (v11 : IVec S16 32) (v32 : IVec S16 32) : Prop :=
  (∀ a x, ((![v11, v32] : Fin 2 → IVec S16 32) a x).toNat < S512x20.size a)
theorem k0_idx13_inb : ∀ (v11 : IVec S16 32) (v32 : IVec S16 32) (k0_hw13 : k0_chk13 v11 v32), ∀ a x, ((![v11, v32] : Fin 2 → IVec S16 32) a x).toNat < S512x20.size a := fun v11 v32 k0_hw13 => k0_hw13

def k0_chk14 (v13 : IVec S16 32) (v33 : IVec S16 32) : Prop :=
  (∀ a x, ((![v33, v13] : Fin 2 → IVec S16 32) a x).toNat < S10x133.size a)
theorem k0_idx14_inb : ∀ (v13 : IVec S16 32) (v33 : IVec S16 32) (k0_hw14 : k0_chk14 v13 v33), ∀ a x, ((![v33, v13] : Fin 2 → IVec S16 32) a x).toNat < S10x133.size a := fun v13 v33 k0_hw14 => k0_hw14

def k0_chk15 (v11 : IVec S16 32) (v35 : IVec S16 32) : Prop :=
  (∀ a x, ((![v11, v35] : Fin 2 → IVec S16 32) a x).toNat < S512x20.size a)
theorem k0_idx15_inb : ∀ (v11 : IVec S16 32) (v35 : IVec S16 32) (k0_hw15 : k0_chk15 v11 v35), ∀ a x, ((![v11, v35] : Fin 2 → IVec S16 32) a x).toNat < S512x20.size a := fun v11 v35 k0_hw15 => k0_hw15

def k0_chk16 (v13 : IVec S16 32) (v36 : IVec S16 32) : Prop :=
  (∀ a x, ((![v36, v13] : Fin 2 → IVec S16 32) a x).toNat < S10x133.size a)
theorem k0_idx16_inb : ∀ (v13 : IVec S16 32) (v36 : IVec S16 32) (k0_hw16 : k0_chk16 v13 v36), ∀ a x, ((![v36, v13] : Fin 2 → IVec S16 32) a x).toNat < S10x133.size a := fun v13 v36 k0_hw16 => k0_hw16

def k0_chk17 (v11 : IVec S16 32) (v38 : IVec S16 32) : Prop :=
  (∀ a x, ((![v11, v38] : Fin 2 → IVec S16 32) a x).toNat < S512x20.size a)
theorem k0_idx17_inb : ∀ (v11 : IVec S16 32) (v38 : IVec S16 32) (k0_hw17 : k0_chk17 v11 v38), ∀ a x, ((![v11, v38] : Fin 2 → IVec S16 32) a x).toNat < S512x20.size a := fun v11 v38 k0_hw17 => k0_hw17

def k0_chk18 (v13 : IVec S16 32) (v39 : IVec S16 32) : Prop :=
  (∀ a x, ((![v39, v13] : Fin 2 → IVec S16 32) a x).toNat < S10x133.size a)
theorem k0_idx18_inb : ∀ (v13 : IVec S16 32) (v39 : IVec S16 32) (k0_hw18 : k0_chk18 v13 v39), ∀ a x, ((![v39, v13] : Fin 2 → IVec S16 32) a x).toNat < S10x133.size a := fun v13 v39 k0_hw18 => k0_hw18

def k0_chk19 (v11 : IVec S16 32) (v41 : IVec S16 32) : Prop :=
  (∀ a x, ((![v11, v41] : Fin 2 → IVec S16 32) a x).toNat < S512x20.size a)
theorem k0_idx19_inb : ∀ (v11 : IVec S16 32) (v41 : IVec S16 32) (k0_hw19 : k0_chk19 v11 v41), ∀ a x, ((![v11, v41] : Fin 2 → IVec S16 32) a x).toNat < S512x20.size a := fun v11 v41 k0_hw19 => k0_hw19

def k0_chk20 (v13 : IVec S16 32) (v42 : IVec S16 32) : Prop :=
  (∀ a x, ((![v42, v13] : Fin 2 → IVec S16 32) a x).toNat < S10x133.size a)
theorem k0_idx20_inb : ∀ (v13 : IVec S16 32) (v42 : IVec S16 32) (k0_hw20 : k0_chk20 v13 v42), ∀ a x, ((![v42, v13] : Fin 2 → IVec S16 32) a x).toNat < S10x133.size a := fun v13 v42 k0_hw20 => k0_hw20

def k0_chk21 (v11 : IVec S16 32) (v44 : IVec S16 32) : Prop :=
  (∀ a x, ((![v11, v44] : Fin 2 → IVec S16 32) a x).toNat < S512x20.size a)
theorem k0_idx21_inb : ∀ (v11 : IVec S16 32) (v44 : IVec S16 32) (k0_hw21 : k0_chk21 v11 v44), ∀ a x, ((![v11, v44] : Fin 2 → IVec S16 32) a x).toNat < S512x20.size a := fun v11 v44 k0_hw21 => k0_hw21

def k0_chk22 (v13 : IVec S16 32) (v45 : IVec S16 32) : Prop :=
  (∀ a x, ((![v45, v13] : Fin 2 → IVec S16 32) a x).toNat < S10x133.size a)
theorem k0_idx22_inb : ∀ (v13 : IVec S16 32) (v45 : IVec S16 32) (k0_hw22 : k0_chk22 v13 v45), ∀ a x, ((![v45, v13] : Fin 2 → IVec S16 32) a x).toNat < S10x133.size a := fun v13 v45 k0_hw22 => k0_hw22

def k0_chk23 (v11 : IVec S16 32) (v47 : IVec S16 32) : Prop :=
  (∀ a x, ((![v11, v47] : Fin 2 → IVec S16 32) a x).toNat < S512x20.size a)
theorem k0_idx23_inb : ∀ (v11 : IVec S16 32) (v47 : IVec S16 32) (k0_hw23 : k0_chk23 v11 v47), ∀ a x, ((![v11, v47] : Fin 2 → IVec S16 32) a x).toNat < S512x20.size a := fun v11 v47 k0_hw23 => k0_hw23

def k0_chk24 (v15 : IVec S16 32) (v48 : IVec S16 32) : Prop :=
  (∀ a x, ((![v48, v15] : Fin 2 → IVec S16 32) a x).toNat < S6x13.size a)
theorem k0_idx24_inb : ∀ (v15 : IVec S16 32) (v48 : IVec S16 32) (k0_hw24 : k0_chk24 v15 v48), ∀ a x, ((![v48, v15] : Fin 2 → IVec S16 32) a x).toNat < S6x13.size a := fun v15 v48 k0_hw24 => k0_hw24

def k0_chk25 (v11 : IVec S16 32) (v50 : IVec S16 32) : Prop :=
  (∀ a x, ((![v11, v50] : Fin 2 → IVec S16 32) a x).toNat < S512x20.size a)
theorem k0_idx25_inb : ∀ (v11 : IVec S16 32) (v50 : IVec S16 32) (k0_hw25 : k0_chk25 v11 v50), ∀ a x, ((![v11, v50] : Fin 2 → IVec S16 32) a x).toNat < S512x20.size a := fun v11 v50 k0_hw25 => k0_hw25

def k0_chk26 (v15 : IVec S16 32) (v51 : IVec S16 32) : Prop :=
  (∀ a x, ((![v51, v15] : Fin 2 → IVec S16 32) a x).toNat < S6x13.size a)
theorem k0_idx26_inb : ∀ (v15 : IVec S16 32) (v51 : IVec S16 32) (k0_hw26 : k0_chk26 v15 v51), ∀ a x, ((![v51, v15] : Fin 2 → IVec S16 32) a x).toNat < S6x13.size a := fun v15 v51 k0_hw26 => k0_hw26

def k0_chk27 (v11 : IVec S16 32) (v53 : IVec S16 32) : Prop :=
  (∀ a x, ((![v11, v53] : Fin 2 → IVec S16 32) a x).toNat < S512x20.size a)
theorem k0_idx27_inb : ∀ (v11 : IVec S16 32) (v53 : IVec S16 32) (k0_hw27 : k0_chk27 v11 v53), ∀ a x, ((![v11, v53] : Fin 2 → IVec S16 32) a x).toNat < S512x20.size a := fun v11 v53 k0_hw27 => k0_hw27

def k0_chk28 (v15 : IVec S16 32) (v54 : IVec S16 32) : Prop :=
  (∀ a x, ((![v54, v15] : Fin 2 → IVec S16 32) a x).toNat < S6x13.size a)
theorem k0_idx28_inb : ∀ (v15 : IVec S16 32) (v54 : IVec S16 32) (k0_hw28 : k0_chk28 v15 v54), ∀ a x, ((![v54, v15] : Fin 2 → IVec S16 32) a x).toNat < S6x13.size a := fun v15 v54 k0_hw28 => k0_hw28

def k0_chk29 (v11 : IVec S16 32) (v56 : IVec S16 32) : Prop :=
  (∀ a x, ((![v11, v56] : Fin 2 → IVec S16 32) a x).toNat < S512x20.size a)
theorem k0_idx29_inb : ∀ (v11 : IVec S16 32) (v56 : IVec S16 32) (k0_hw29 : k0_chk29 v11 v56), ∀ a x, ((![v11, v56] : Fin 2 → IVec S16 32) a x).toNat < S512x20.size a := fun v11 v56 k0_hw29 => k0_hw29

def k0_chk30 (v15 : IVec S16 32) (v57 : IVec S16 32) : Prop :=
  (∀ a x, ((![v57, v15] : Fin 2 → IVec S16 32) a x).toNat < S6x13.size a)
theorem k0_idx30_inb : ∀ (v15 : IVec S16 32) (v57 : IVec S16 32) (k0_hw30 : k0_chk30 v15 v57), ∀ a x, ((![v57, v15] : Fin 2 → IVec S16 32) a x).toNat < S6x13.size a := fun v15 v57 k0_hw30 => k0_hw30

def k0_chk31 (v11 : IVec S16 32) (v59 : IVec S16 32) : Prop :=
  (∀ a x, ((![v11, v59] : Fin 2 → IVec S16 32) a x).toNat < S512x20.size a)
theorem k0_idx31_inb : ∀ (v11 : IVec S16 32) (v59 : IVec S16 32) (k0_hw31 : k0_chk31 v11 v59), ∀ a x, ((![v11, v59] : Fin 2 → IVec S16 32) a x).toNat < S512x20.size a := fun v11 v59 k0_hw31 => k0_hw31

def k0_chk32 (v15 : IVec S16 32) (v60 : IVec S16 32) : Prop :=
  (∀ a x, ((![v60, v15] : Fin 2 → IVec S16 32) a x).toNat < S6x13.size a)
theorem k0_idx32_inb : ∀ (v15 : IVec S16 32) (v60 : IVec S16 32) (k0_hw32 : k0_chk32 v15 v60), ∀ a x, ((![v60, v15] : Fin 2 → IVec S16 32) a x).toNat < S6x13.size a := fun v15 v60 k0_hw32 => k0_hw32

def k0_chk33 (v11 : IVec S16 32) (v62 : IVec S16 32) : Prop :=
  (∀ a x, ((![v11, v62] : Fin 2 → IVec S16 32) a x).toNat < S512x20.size a)
theorem k0_idx33_inb : ∀ (v11 : IVec S16 32) (v62 : IVec S16 32) (k0_hw33 : k0_chk33 v11 v62), ∀ a x, ((![v11, v62] : Fin 2 → IVec S16 32) a x).toNat < S512x20.size a := fun v11 v62 k0_hw33 => k0_hw33

def k0_chk34 (v15 : IVec S16 32) (v63 : IVec S16 32) : Prop :=
  (∀ a x, ((![v63, v15] : Fin 2 → IVec S16 32) a x).toNat < S6x13.size a)
theorem k0_idx34_inb : ∀ (v15 : IVec S16 32) (v63 : IVec S16 32) (k0_hw34 : k0_chk34 v15 v63), ∀ a x, ((![v63, v15] : Fin 2 → IVec S16 32) a x).toNat < S6x13.size a := fun v15 v63 k0_hw34 => k0_hw34

def k0_chk35 (v11 : IVec S16 32) (v65 : IVec S16 32) : Prop :=
  (∀ a x, ((![v11, v65] : Fin 2 → IVec S16 32) a x).toNat < S512x20.size a)
theorem k0_idx35_inb : ∀ (v11 : IVec S16 32) (v65 : IVec S16 32) (k0_hw35 : k0_chk35 v11 v65), ∀ a x, ((![v11, v65] : Fin 2 → IVec S16 32) a x).toNat < S512x20.size a := fun v11 v65 k0_hw35 => k0_hw35

def k0_chk36 (v17 : IVec S16 32) (v66 : IVec S16 32) : Prop :=
  (∀ a x, ((![v66, v17] : Fin 2 → IVec S16 32) a x).toNat < S4x9.size a)
theorem k0_idx36_inb : ∀ (v17 : IVec S16 32) (v66 : IVec S16 32) (k0_hw36 : k0_chk36 v17 v66), ∀ a x, ((![v66, v17] : Fin 2 → IVec S16 32) a x).toNat < S4x9.size a := fun v17 v66 k0_hw36 => k0_hw36

def k0_chk37 (v11 : IVec S16 32) (v68 : IVec S16 32) : Prop :=
  (∀ a x, ((![v11, v68] : Fin 2 → IVec S16 32) a x).toNat < S512x20.size a)
theorem k0_idx37_inb : ∀ (v11 : IVec S16 32) (v68 : IVec S16 32) (k0_hw37 : k0_chk37 v11 v68), ∀ a x, ((![v11, v68] : Fin 2 → IVec S16 32) a x).toNat < S512x20.size a := fun v11 v68 k0_hw37 => k0_hw37

def k0_chk38 (v17 : IVec S16 32) (v69 : IVec S16 32) : Prop :=
  (∀ a x, ((![v69, v17] : Fin 2 → IVec S16 32) a x).toNat < S4x9.size a)
theorem k0_idx38_inb : ∀ (v17 : IVec S16 32) (v69 : IVec S16 32) (k0_hw38 : k0_chk38 v17 v69), ∀ a x, ((![v69, v17] : Fin 2 → IVec S16 32) a x).toNat < S4x9.size a := fun v17 v69 k0_hw38 => k0_hw38

def k0_chk39 (v11 : IVec S16 32) (v71 : IVec S16 32) : Prop :=
  (∀ a x, ((![v11, v71] : Fin 2 → IVec S16 32) a x).toNat < S512x20.size a)
theorem k0_idx39_inb : ∀ (v11 : IVec S16 32) (v71 : IVec S16 32) (k0_hw39 : k0_chk39 v11 v71), ∀ a x, ((![v11, v71] : Fin 2 → IVec S16 32) a x).toNat < S512x20.size a := fun v11 v71 k0_hw39 => k0_hw39

def k0_chk40 (v17 : IVec S16 32) (v72 : IVec S16 32) : Prop :=
  (∀ a x, ((![v72, v17] : Fin 2 → IVec S16 32) a x).toNat < S4x9.size a)
theorem k0_idx40_inb : ∀ (v17 : IVec S16 32) (v72 : IVec S16 32) (k0_hw40 : k0_chk40 v17 v72), ∀ a x, ((![v72, v17] : Fin 2 → IVec S16 32) a x).toNat < S4x9.size a := fun v17 v72 k0_hw40 => k0_hw40

def k0_chk41 (v11 : IVec S16 32) (v74 : IVec S16 32) : Prop :=
  (∀ a x, ((![v11, v74] : Fin 2 → IVec S16 32) a x).toNat < S512x20.size a)
theorem k0_idx41_inb : ∀ (v11 : IVec S16 32) (v74 : IVec S16 32) (k0_hw41 : k0_chk41 v11 v74), ∀ a x, ((![v11, v74] : Fin 2 → IVec S16 32) a x).toNat < S512x20.size a := fun v11 v74 k0_hw41 => k0_hw41

def k0_chk42 (v17 : IVec S16 32) (v75 : IVec S16 32) : Prop :=
  (∀ a x, ((![v75, v17] : Fin 2 → IVec S16 32) a x).toNat < S4x9.size a)
theorem k0_idx42_inb : ∀ (v17 : IVec S16 32) (v75 : IVec S16 32) (k0_hw42 : k0_chk42 v17 v75), ∀ a x, ((![v75, v17] : Fin 2 → IVec S16 32) a x).toNat < S4x9.size a := fun v17 v75 k0_hw42 => k0_hw42

def k0_chk43 (v11 : IVec S16 32) (v77 : IVec S16 32) : Prop :=
  (∀ a x, ((![v11, v77] : Fin 2 → IVec S16 32) a x).toNat < S512x20.size a)
theorem k0_idx43_inb : ∀ (v11 : IVec S16 32) (v77 : IVec S16 32) (k0_hw43 : k0_chk43 v11 v77), ∀ a x, ((![v11, v77] : Fin 2 → IVec S16 32) a x).toNat < S512x20.size a := fun v11 v77 k0_hw43 => k0_hw43
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_6_r0 : BitVec 32 := 0#32
  ![v2.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S39x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x20 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S20x200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S39x200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S200 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S200x100 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S100 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S50x100 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S50 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S20x50 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S20 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S2x20 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S2 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2x4096 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x39 : Shape := ⟨2, ![16384, 39]⟩
abbrev S16384x3 : Shape := ⟨2, ![16384, 3]⟩
abbrev S133x10 : Shape := ⟨2, ![133, 10]⟩
abbrev S13x6 : Shape := ⟨2, ![13, 6]⟩
abbrev S9x4 : Shape := ⟨2, ![9, 4]⟩
abbrev S200x59 : Shape := ⟨2, ![200, 59]⟩
abbrev S200 : Shape := ⟨1, ![200]⟩
abbrev S100x200 : Shape := ⟨2, ![100, 200]⟩
abbrev S100 : Shape := ⟨1, ![100]⟩
abbrev S50x100 : Shape := ⟨2, ![50, 100]⟩
abbrev S50 : Shape := ⟨1, ![50]⟩
abbrev S20x50 : Shape := ⟨2, ![20, 50]⟩
abbrev S20 : Shape := ⟨1, ![20]⟩
abbrev S2x20 : Shape := ⟨2, ![2, 20]⟩
abbrev S2 : Shape := ⟨1, ![2]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x10 : Shape := ⟨2, ![16384, 10]⟩
abbrev S16384x6 : Shape := ⟨2, ![16384, 6]⟩
abbrev S16384x4 : Shape := ⟨2, ![16384, 4]⟩
abbrev S16384x20 : Shape := ⟨2, ![16384, 20]⟩
abbrev S16384x59 : Shape := ⟨2, ![16384, 59]⟩
abbrev S59x200 : Shape := ⟨2, ![59, 200]⟩
abbrev S16384x200 : Shape := ⟨2, ![16384, 200]⟩
abbrev S1x200 : Shape := ⟨2, ![1, 200]⟩
abbrev S200x100 : Shape := ⟨2, ![200, 100]⟩
abbrev S16384x100 : Shape := ⟨2, ![16384, 100]⟩
abbrev S1x100 : Shape := ⟨2, ![1, 100]⟩
abbrev S100x50 : Shape := ⟨2, ![100, 50]⟩
abbrev S16384x50 : Shape := ⟨2, ![16384, 50]⟩
abbrev S1x50 : Shape := ⟨2, ![1, 50]⟩
abbrev S50x20 : Shape := ⟨2, ![50, 20]⟩
abbrev S1x20 : Shape := ⟨2, ![1, 20]⟩
abbrev S20x2 : Shape := ⟨2, ![20, 2]⟩
abbrev S16384x2 : Shape := ⟨2, ![16384, 2]⟩
abbrev S1x2 : Shape := ⟨2, ![1, 2]⟩

abbrev nBuf : Space → Nat
  | .hbm => 144
  | .vmem => 0
  | .smem => 0
  | _ => 0

abbrev hbmTy0_0 (i : Nat) : BufTy := match i % 128 with
  | 0 => ⟨S16384x39, .f32⟩
  | 1 => ⟨S16384x3, .i32⟩
  | 2 => ⟨S133x10, .f32⟩
  | 3 => ⟨S13x6, .f32⟩
  | 4 => ⟨S9x4, .f32⟩
  | 5 => ⟨S200x59, .f32⟩
  | 6 => ⟨S200, .f32⟩
  | 7 => ⟨S100x200, .f32⟩
  | 8 => ⟨S100, .f32⟩
  | 9 => ⟨S50x100, .f32⟩
  | 10 => ⟨S50, .f32⟩
  | 11 => ⟨S20x50, .f32⟩
  | 12 => ⟨S20, .f32⟩
  | 13 => ⟨S2x20, .f32⟩
  | 14 => ⟨S2, .f32⟩
  | 15 => ⟨S16384x1, .i32⟩
  | 16 => ⟨S16384, .i32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S1, .i32⟩
  | 26 => ⟨S_, .i32⟩
  | 27 => ⟨S16384x1, .i32⟩
  | 28 => ⟨S16384x1, .i1⟩
  | 29 => ⟨S1x1, .i32⟩
  | 30 => ⟨S16384x1, .i32⟩
  | 31 => ⟨S16384x1, .i1⟩
  | 32 => ⟨S16384x1, .i1⟩
  | 33 => ⟨S_, .i1⟩
  | 34 => ⟨S16384, .i1⟩
  | 35 => ⟨S16384x10, .f32⟩
  | 36 => ⟨S16384x10, .i1⟩
  | 37 => ⟨S_, .f32⟩
  | 38 => ⟨S16384x10, .f32⟩
  | 39 => ⟨S16384x10, .f32⟩
  | 40 => ⟨S16384x1, .i32⟩
  | 41 => ⟨S16384, .i32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S16384x1, .i32⟩
  | 50 => ⟨S1, .i32⟩
  | 51 => ⟨S_, .i32⟩
  | 52 => ⟨S16384x1, .i32⟩
  | 53 => ⟨S16384x1, .i1⟩
  | 54 => ⟨S1x1, .i32⟩
  | 55 => ⟨S16384x1, .i32⟩
  | 56 => ⟨S16384x1, .i1⟩
  | 57 => ⟨S16384x1, .i1⟩
  | 58 => ⟨S_, .i1⟩
  | 59 => ⟨S16384, .i1⟩
  | 60 => ⟨S16384x6, .f32⟩
  | 61 => ⟨S16384x6, .i1⟩
  | 62 => ⟨S_, .f32⟩
  | 63 => ⟨S16384x6, .f32⟩
  | 64 => ⟨S16384x6, .f32⟩
  | 65 => ⟨S16384x1, .i32⟩
  | 66 => ⟨S16384, .i32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S1, .i32⟩
  | 76 => ⟨S_, .i32⟩
  | 77 => ⟨S16384x1, .i32⟩
  | 78 => ⟨S16384x1, .i1⟩
  | 79 => ⟨S1x1, .i32⟩
  | 80 => ⟨S16384x1, .i32⟩
  | 81 => ⟨S16384x1, .i1⟩
  | 82 => ⟨S16384x1, .i1⟩
  | 83 => ⟨S_, .i1⟩
  | 84 => ⟨S16384, .i1⟩
  | 85 => ⟨S16384x4, .f32⟩
  | 86 => ⟨S16384x4, .i1⟩
  | 87 => ⟨S_, .f32⟩
  | 88 => ⟨S16384x4, .f32⟩
  | 89 => ⟨S16384x4, .f32⟩
  | 90 => ⟨S16384x20, .f32⟩
  | 91 => ⟨S16384x59, .f32⟩
  | 92 => ⟨S59x200, .f32⟩
  | 93 => ⟨S16384x200, .f32⟩
  | 94 => ⟨S1x200, .f32⟩
  | 95 => ⟨S16384x200, .f32⟩
  | 96 => ⟨S16384x200, .f32⟩
  | 97 => ⟨S_, .f32⟩
  | 98 => ⟨S16384x200, .f32⟩
  | 99 => ⟨S16384x200, .f32⟩
  | 100 => ⟨S200x100, .f32⟩
  | 101 => ⟨S16384x100, .f32⟩
  | 102 => ⟨S1x100, .f32⟩
  | 103 => ⟨S16384x100, .f32⟩
  | 104 => ⟨S16384x100, .f32⟩
  | 105 => ⟨S_, .f32⟩
  | 106 => ⟨S16384x100, .f32⟩
  | 107 => ⟨S16384x100, .f32⟩
  | 108 => ⟨S100x50, .f32⟩
  | 109 => ⟨S16384x50, .f32⟩
  | 110 => ⟨S1x50, .f32⟩
  | 111 => ⟨S16384x50, .f32⟩
  | 112 => ⟨S16384x50, .f32⟩
  | 113 => ⟨S_, .f32⟩
  | 114 => ⟨S16384x50, .f32⟩
  | 115 => ⟨S16384x50, .f32⟩
  | 116 => ⟨S50x20, .f32⟩
  | 117 => ⟨S16384x20, .f32⟩
  | 118 => ⟨S1x20, .f32⟩
  | 119 => ⟨S16384x20, .f32⟩
  | 120 => ⟨S16384x20, .f32⟩
  | 121 => ⟨S_, .f32⟩
  | 122 => ⟨S16384x20, .f32⟩
  | 123 => ⟨S16384x20, .f32⟩
  | 124 => ⟨S20x2, .f32⟩
  | 125 => ⟨S16384x2, .f32⟩
  | 126 => ⟨S1x2, .f32⟩
  | 127 => ⟨S16384x2, .f32⟩
  | _ => ⟨S16384x39, .f32⟩

abbrev hbmTy0_1 (i : Nat) : BufTy := match i % 128 with
  | 0 => ⟨S16384x2, .f32⟩
  | 1 => ⟨S_, .f32⟩
  | 2 => ⟨S16384, .f32⟩
  | 3 => ⟨S_, .f32⟩
  | 4 => ⟨S16384, .f32⟩
  | 5 => ⟨S16384, .f32⟩
  | 6 => ⟨S16384x1, .f32⟩
  | 7 => ⟨S16384x2, .f32⟩
  | 8 => ⟨S16384x2, .f32⟩
  | 9 => ⟨S16384x2, .f32⟩
  | 10 => ⟨S_, .f32⟩
  | 11 => ⟨S16384, .f32⟩
  | 12 => ⟨S16384x1, .f32⟩
  | 13 => ⟨S16384x1, .f32⟩
  | 14 => ⟨S16384x2, .f32⟩
  | 15 => ⟨S16384x2, .f32⟩
  | _ => ⟨S16384x39, .f32⟩

abbrev hbmTy (i : Nat) : BufTy := match i / 128 with
  | 0 => hbmTy0_0 i
  | 1 => hbmTy0_1 i
  | _ => ⟨S16384x39, .f32⟩

abbrev bufTy : (tb : Table) → Fin (tcTables nBuf tb) → BufTy
  | .hbm, ⟨i, _⟩ => hbmTy i
  | _, _ => ⟨S16384x39, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v8 : Ref sig .tc := ⟨.hbm, 89, rfl⟩
abbrev main_v9 : Ref sig .tc := ⟨.hbm, 90, rfl⟩
abbrev main_v10 : Ref sig .tc := ⟨.hbm, 91, rfl⟩
abbrev main_v11 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_call3_cst : Ref sig .tc := ⟨.hbm, 97, rfl⟩
abbrev main_call3_v0 : Ref sig .tc := ⟨.hbm, 98, rfl⟩
abbrev main_v16 : Ref sig .tc := ⟨.hbm, 99, rfl⟩
abbrev main_v17 : Ref sig .tc := ⟨.hbm, 100, rfl⟩
abbrev main_v18 : Ref sig .tc := ⟨.hbm, 101, rfl⟩
abbrev main_v19 : Ref sig .tc := ⟨.hbm, 102, rfl⟩
abbrev main_v20 : Ref sig .tc := ⟨.hbm, 103, rfl⟩
abbrev main_v21 : Ref sig .tc := ⟨.hbm, 104, rfl⟩
abbrev main_call4_cst : Ref sig .tc := ⟨.hbm, 105, rfl⟩
abbrev main_call4_v0 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_call5_cst : Ref sig .tc := ⟨.hbm, 113, rfl⟩
abbrev main_call5_v0 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_call6_cst : Ref sig .tc := ⟨.hbm, 121, rfl⟩
abbrev main_call6_v0 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_call7_cst : Ref sig .tc := ⟨.hbm, 129, rfl⟩
abbrev main_call7_v0 : Ref sig .tc := ⟨.hbm, 130, rfl⟩
abbrev main_call7_cst_0 : Ref sig .tc := ⟨.hbm, 131, rfl⟩
abbrev main_call7_v1 : Ref sig .tc := ⟨.hbm, 132, rfl⟩
abbrev main_call7_v2 : Ref sig .tc := ⟨.hbm, 133, rfl⟩
abbrev main_call7_v3 : Ref sig .tc := ⟨.hbm, 134, rfl⟩
abbrev main_call7_v4 : Ref sig .tc := ⟨.hbm, 135, rfl⟩
abbrev main_call7_v5 : Ref sig .tc := ⟨.hbm, 136, rfl⟩
abbrev main_call7_v6 : Ref sig .tc := ⟨.hbm, 137, rfl⟩
abbrev main_call7_cst_1 : Ref sig .tc := ⟨.hbm, 138, rfl⟩
abbrev main_call7_v7 : Ref sig .tc := ⟨.hbm, 139, rfl⟩
abbrev main_call7_v8 : Ref sig .tc := ⟨.hbm, 140, rfl⟩
abbrev main_call7_v9 : Ref sig .tc := ⟨.hbm, 141, rfl⟩
abbrev main_call7_v10 : Ref sig .tc := ⟨.hbm, 142, rfl⟩
abbrev main_v40 : Ref sig .tc := ⟨.hbm, 143, rfl⟩

abbrev nD : Nat := 1
abbrev τ : Topo := Topo.v7x

variable {F : FTy → Type} [FloatOps F]
-- ==== Proof.Lookup.lean ====
/-
  What one tile's loop computes, as mathematics: the table lookup the SparseCore kernel performs (`gath`), the scatter of one
  vector of sixteen looked-up values into one column of the tile's block (`storeIdx` at an index), and the invariant the loop
  keeps of that block (`Done`: the rows of the earlier trips in full, and the first columns of the current sixteen rows).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.RegionsLoop
public import Idealize.ShloMosaic.Lib.Pipeline.RegionArrays
public import Idealize.ShloMosaic.Lib.Tactic
public import Idealize.ShloMosaic.Lib.ShareLeaves
public import Idealize.ShloMosaic.Lib.ValueIdxCore
public import Idealize.ShloMosaic.Lib.Pipeline.Value
public import Idealize.ShloMosaic.Lib.WordArith.Masks
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Emb

open Cert.KernelIdeal Cert.KernelIdeal.Gen

open Idealize.ShloMosaic
open Idealize.ShloMosaic.ValueIdx (ix2)

/-! ## A scatter of lanes, read at an index -/

section Scatter

variable {F : FTy → Type} [FloatOps F] {s : Shape} {e : EltTy}

/-- A run of the scatter's writes leaves `y` at `j` when every lane that names `j` carries `y` and either some lane of the run
    names it or `y` was already there. -/
theorem scatter_run {d : Fin 1 → ℕ} (idxs : Fin s.rank → IVec ⟨1, d⟩ 32) (v : Vec F ⟨1, d⟩ e)
    (h : ∀ a x, (idxs a x).toNat < s.size a) (j : s.Idx) (y : Elt F e)
    (hy : ∀ k : Fin (d 0), idxAt idxs h (Shape.ofLane k) = j → v (Shape.ofLane k) = y) (l : List (Fin (d 0))) (f : Vec F s e)
    (hf : (∃ k ∈ l, idxAt idxs h (Shape.ofLane k) = j) ∨ f j = y) :
    l.foldl (fun g k => fun j => if (∀ a, (j a).val = (idxAt idxs h (Shape.ofLane k) a).val) then v (Shape.ofLane k) else g j) f j = y := by
  induction l generalizing f with
  | nil => exact hf.elim (fun ⟨k, hk, _⟩ => absurd hk List.not_mem_nil) id
  | cons k l ih =>
    rw [List.foldl_cons]
    refine ih _ ?_
    rcases hf with ⟨k', hk', e'⟩ | hf
    · rcases List.mem_cons.mp hk' with rfl | hk'
      · refine Or.inr ?_
        rw [if_pos fun a => by rw [e'], hy k' e']
      · exact Or.inl ⟨k', hk', e'⟩
    · refine Or.inr ?_
      by_cases c : ∀ a, (j a).val = (idxAt idxs h (Shape.ofLane k) a).val
      · rw [if_pos c]; exact hy k (funext fun a => Fin.ext (c a).symm)
      · rw [if_neg c, hf]

/-- The unmasked scatter leaves `y` at `j` when every lane that names `j` carries `y` and either some lane names it or `y` was
    already there. -/
theorem storeIdx_eq {d : Fin 1 → ℕ} (f : Vec F s e) (idxs : Fin s.rank → IVec ⟨1, d⟩ 32) (v : Vec F ⟨1, d⟩ e)
    (h : ∀ a x, (idxs a x).toNat < s.size a) (j : s.Idx) (y : Elt F e)
    (hy : ∀ k : Fin (d 0), idxAt idxs h (Shape.ofLane k) = j → v (Shape.ofLane k) = y)
    (hf : (∃ k : Fin (d 0), idxAt idxs h (Shape.ofLane k) = j) ∨ f j = y) :
    storeIdx f idxs v (fun _ => 1#1) false h j = y := by
  have e : storeIdx f idxs v (fun _ => 1#1) false h
      = (List.finRange (d 0)).foldl (fun g k => fun j =>
          if (∀ a, (j a).val = (idxAt idxs h (Shape.ofLane k) a).val) then v (Shape.ofLane k) else g j) f := by
    unfold storeIdx; simp
  rw [e]
  exact scatter_run idxs v h j y hy (List.finRange (d 0)) f (hf.imp (fun ⟨k, hk⟩ => ⟨k, List.mem_finRange k, hk⟩) id)

end Scatter

/-! ## The lookup -/

/-- A word as an index of an axis of `n` elements (the word itself wherever it is below `n`). -/
abbrev wd (n : ℕ) [NeZero n] (w : BitVec 32) : Fin n := Fin.ofNat n w.toNat

theorem wd_val {n : ℕ} [NeZero n] {w : BitVec 32} (h : w.toNat < n) : (wd n w).val = w.toNat := Nat.mod_eq_of_lt h

/-- The lookup: element `(b, q)` of the result is row `q` of the first table at the column the word of batch element `b` names in
    row 0 of the categories for `q < 10`, then the six rows of the second table, then the four of the third. -/
def gath {α : Type} {n : ℕ} (C : (⟨2, ![3, n]⟩ : Shape).Idx → BitVec 32) (T₁ : S10x133.Idx → α) (T₂ : S6x13.Idx → α) (T₃ : S4x9.Idx → α) :
    (⟨2, ![n, 20]⟩ : Shape).Idx → α := fun j =>
  if h : (j 1).val < 10 then T₁ (ix2 ⟨(j 1).val, h⟩ (wd 133 (C (ix2 0 (j 0)))))
  else if h' : (j 1).val < 16 then T₂ (ix2 ⟨(j 1).val - 10, by omega⟩ (wd 13 (C (ix2 1 (j 0)))))
  else T₃ (ix2 ⟨(j 1).val - 16, by have h20 : (j 1).val < 20 := (j 1).isLt; omega⟩ (wd 9 (C (ix2 2 (j 0)))))

section Gath

variable {α : Type} {n : ℕ} (C : (⟨2, ![3, n]⟩ : Shape).Idx → BitVec 32) (T₁ : S10x133.Idx → α) (T₂ : S6x13.Idx → α) (T₃ : S4x9.Idx → α)

theorem gath_first {j : (⟨2, ![n, 20]⟩ : Shape).Idx} (l : Fin 10) (k : Fin 133) (hl : (j 1).val = l.val) (hk : (C (ix2 0 (j 0))).toNat = k.val) :
    gath C T₁ T₂ T₃ j = T₁ (ix2 l k) := by
  unfold gath; rw [dif_pos (by omega)]
  congr 1; funext a
  match a with
  | 0 => exact Fin.ext hl
  | 1 => exact Fin.ext ((wd_val (n := 133) (hk ▸ k.isLt)).trans hk)

theorem gath_second {j : (⟨2, ![n, 20]⟩ : Shape).Idx} (l : Fin 6) (k : Fin 13) (hl : (j 1).val = 10 + l.val) (hk : (C (ix2 1 (j 0))).toNat = k.val) :
    gath C T₁ T₂ T₃ j = T₂ (ix2 l k) := by
  unfold gath; rw [dif_neg (by omega), dif_pos (by omega)]
  congr 1; funext a
  match a with
  | 0 => exact Fin.ext (show (j 1).val - 10 = l.val by omega)
  | 1 => exact Fin.ext ((wd_val (n := 13) (hk ▸ k.isLt)).trans hk)

theorem gath_third {j : (⟨2, ![n, 20]⟩ : Shape).Idx} (l : Fin 4) (k : Fin 9) (hl : (j 1).val = 16 + l.val) (hk : (C (ix2 2 (j 0))).toNat = k.val) :
    gath C T₁ T₂ T₃ j = T₃ (ix2 l k) := by
  unfold gath; rw [dif_neg (by omega), dif_neg (by omega)]
  congr 1; funext a
  match a with
  | 0 => exact Fin.ext (show (j 1).val - 16 = l.val by omega)
  | 1 => exact Fin.ext ((wd_val (n := 9) (hk ▸ k.isLt)).trans hk)

end Gath

/-! ## The block a tile fills, trip by trip and column by column -/

/-- The rows of the trips before `t` hold their values, and the sixteen rows of trip `t` the first `q` columns of theirs. -/
def Done {α : Type} (G : S512x20.Idx → α) (t q : ℕ) (g : S512x20.Idx → α) : Prop :=
  ∀ j, (j 0).val < 16 * t ∨ ((j 0).val < 16 * t + 16 ∧ (j 1).val < q) → g j = G j

section Done

variable {α : Type} {G g : S512x20.Idx → α} {t : ℕ}

theorem Done.zero : Done G 0 0 g := fun _ h => by omega

theorem Done.next (h : Done G t 20 g) : Done G (t + 1) 0 g := fun j hj =>
  h j (by have : (j 1).val < 20 := (j 1).isLt; omega)

theorem Done.all (h : Done G 32 0 g) : g = G := funext fun j =>
  h j (by have : (j 0).val < 512 := (j 0).isLt; omega)

end Done

/-- One column of one trip: sixteen values written down column `q` of the sixteen rows of trip `t`, each the one that belongs
    there, carry the invariant from `q` columns to `q + 1`. -/
theorem Done.column {F : FTy → Type} [FloatOps F] {G g : Vec F S512x20 .f32} {t q : ℕ} (hg : Done G t q g) {r c : IVec S16 32} {v : Vec F S16 .f32}
    (h : ∀ a x, ((![r, c] : Fin 2 → IVec S16 32) a x).toNat < S512x20.size a)
    (hr : ∀ x : S16.Idx, (r x).toNat = 16 * t + (x 0).val) (hc : ∀ x, (c x).toNat = q) (hv : ∀ x, v x = G (idxAt (s := S512x20) ![r, c] h x)) :
    Done G t (q + 1) (storeIdx (s := S512x20) g ![r, c] v (fun _ => 1#1) false h) := by
  intro j hj
  refine storeIdx_eq (s := S512x20) g ![r, c] v h j (G j) (fun k hk => (hv _).trans (congrArg G hk)) ?_
  by_cases hit : 16 * t ≤ (j 0).val ∧ (j 1).val = q
  · have hlt : (j 0).val - 16 * t < 16 := by omega
    refine Or.inl ⟨(⟨(j 0).val - 16 * t, hlt⟩ : Fin 16), funext fun a => ?_⟩
    match a with
    | 0 => exact Fin.ext ((hr _).trans (show 16 * t + ((j 0).val - 16 * t) = (j 0).val by omega))
    | 1 => exact Fin.ext ((hc _).trans hit.2.symm)
  · exact Or.inr (hg j (by omega))

/-- The rows trip `t` addresses: sixteen from `16 * t`. -/
theorem rows_trip (t : Fin k0_t1_loop.trips) (x : S16.Idx) :
    (k0_pay1 (iota .scVector S16 32 [0] iota_S16_d0_w32_scVector) 0#32 1#32 t x).toNat = 16 * t.val + (x 0).val := by
  have ht : t.val < 32 := lt_of_lt_of_le t.isLt k0_t1_abs.2.1
  have hx : (x 0).val < 16 := (x 0).isLt
  have hiv : (Scf.iv 0#32 1#32 t.val).toNat = t.val := WordArith.toNat_iv_zero_one _ (by omega)
  show ((Scf.iv 0#32 1#32 t.val * 16#32) + iota .scVector S16 32 [0] iota_S16_d0_w32_scVector x).toNat = _
  rw [iota_single_apply, BitVec.toNat_add, BitVec.toNat_mul, hiv, BitVec.toNat_ofNat, BitVec.toNat_ofNat]
  omega

end Cert.Proof.Emb

end
-- ==== Proof.Setup.lean ====
/-
  The program as the launch theorem sees it, the resource algebra of the proof, the contents of the arrays the SparseCore call
  reads, and what the call's handshakes carry: every tile is lent a read share of the categories and of the three tables, and owns
  its 512 rows of the embedding array, which it hands back at the looked-up values.
-/
module

public import proofs.«01_k».proof.Proof.Lookup

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type}

/-! ## The program -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

section

variable [FloatOps F]

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end

/-! ## The resource algebra: the handshakes' rounds, the TensorCore pipeline's cells, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance : (EP (F := F)).LandsIn upEmb := by unfold EP embR; infer_instance

/-! ## The arrays of the SparseCore call -/

abbrev catLoc (d : Dev nD) : Loc nD τ sig := (SparseCore.T d).loc main_v0
abbrev t1Loc (d : Dev nD) : Loc nD τ sig := (SparseCore.T d).loc main_v1
abbrev t2Loc (d : Dev nD) : Loc nD τ sig := (SparseCore.T d).loc main_v2
abbrev t3Loc (d : Dev nD) : Loc nD τ sig := (SparseCore.T d).loc main_v3
abbrev xeLoc (d : Dev nD) : Loc nD τ sig := (SparseCore.T d).loc main_v4

variable (m : (ℓ : Loc nD τ sig) → Buf (Elt F) ℓ)

/-- The categories and the three tables, transposed, as the call finds them. -/
abbrev catV [FloatOps F] (d : Dev nD) : Buf (Elt F) (catLoc d) :=
  (transpose S3x16384 [1, 0] · transposes_S16384x3_S3x16384_1_0) (m ((SparseCore.T d).loc main_arg1))
abbrev t1V [FloatOps F] (d : Dev nD) : Buf (Elt F) (t1Loc d) :=
  (transpose S10x133 [1, 0] · transposes_S133x10_S10x133_1_0) (m ((SparseCore.T d).loc main_arg2))
abbrev t2V [FloatOps F] (d : Dev nD) : Buf (Elt F) (t2Loc d) :=
  (transpose S6x13 [1, 0] · transposes_S13x6_S6x13_1_0) (m ((SparseCore.T d).loc main_arg3))
abbrev t3V [FloatOps F] (d : Dev nD) : Buf (Elt F) (t3Loc d) :=
  (transpose S4x9 [1, 0] · transposes_S9x4_S4x9_1_0) (m ((SparseCore.T d).loc main_arg4))
/-- The embedding array the call leaves: the lookup, whole. -/
abbrev xeV [FloatOps F] (d : Dev nD) : Buf (Elt F) (xeLoc d) := gath (n := 16384) (catV m d) (t1V m d) (t2V m d) (t3V m d)

/-- Every category word lies below 9, the height of the shortest table. -/
def InRange [FloatOps F] : Prop := ∀ (d : Dev nD) (j : S3x16384.Idx), ((catV m d : S3x16384.Idx → BitVec 32) j).toNat < 9

-- the kernel's memrefs as the body table passes them
local notation "catM" => (Memref.whole Cert.KernelIdeal.main_v0_scv : Memref Cert.KernelIdeal.sig Kind.scVector Space.hbm Cert.KernelIdeal.S3x16384 EltTy.i32)
local notation "xeM" => (Memref.whole Cert.KernelIdeal.main_v4_scv : Memref Cert.KernelIdeal.sig Kind.scVector Space.hbm Cert.KernelIdeal.S16384x20 EltTy.f32)

theorem hdiv : 32 ∣ S16384x20.size 0 := ⟨512, rfl⟩
/-- Block `w` of the embedding array's rows: one tile's. -/
abbrev row (w : Fin 32) : Rect S16384x20 := Rect.part (s := S16384x20) (a₀ := 0) hdiv w
abbrev rowSet (w : Fin 32) : Finset S16384x20.Idx := ((xeM).view.slice (row w)).set

/-- The block tile `i` of core `c` works on. -/
def wid (c : Fin 2) (i : Fin 16) : Fin 32 := ⟨2 * i.val + c.val, by omega⟩

/-! ## What the handshakes carry -/

variable [FloatOps F]

/-- Tile `w`'s read share of the whole of an array. -/
abbrev rd (w : Fin 32) : PosShare TreeShare := ShareLeaves.leaf 5 fullShare w

abbrev catRd (d : Dev nD) (w : Fin 32) : sProp 𝕄 := catLoc d ↦{rd w} catV m d
abbrev t1Rd (d : Dev nD) (w : Fin 32) : sProp 𝕄 := t1Loc d ↦{rd w} t1V m d
abbrev t2Rd (d : Dev nD) (w : Fin 32) : sProp 𝕄 := t2Loc d ↦{rd w} t2V m d
abbrev t3Rd (d : Dev nD) (w : Fin 32) : sProp 𝕄 := t3Loc d ↦{rd w} t3V m d
abbrev xeRow (d : Dev nD) (w : Fin 32) (f : Buf (Elt F) (xeLoc d)) : sProp 𝕄 := xeLoc d ↦[rowSet w]{fullShare} f

/-- What a tile is handed … -/
abbrev goW (d : Dev nD) (w : Fin 32) : sProp 𝕄 :=
  iprop(catRd m d w ∗ t1Rd m d w ∗ t2Rd m d w ∗ t3Rd m d w ∗ xeRow d w (m (xeLoc d)))
/-- … and what it hands back: its rows of the embedding array at the looked-up values. (The read shares stay with it: nothing
    after the call reads those arrays.) -/
abbrev tdW (d : Dev nD) (w : Fin 32) : sProp 𝕄 := xeRow d w (xeV m d)

/-- A call's SparseCore takes what its sixteen tiles take and brings back what they bring back. -/
def P : (K (F := F)).Pay (nD := nD) (Val := Elt F) (Name := ℕ) (U := UU) where
  st := fun q d c => match q with | 0 => bigSep Finset.univ fun i : Fin 16 => goW m d (wid (Fin.cast nCore_zero c) i)
  dn := fun q d c => match q with | 0 => bigSep Finset.univ fun i : Fin 16 => tdW m d (wid (Fin.cast nCore_zero c) i)
  go := fun q d c i => match q with | 0 => goW m d (wid (Fin.cast nCore_zero c) (Fin.cast nSub_zero i))
  td := fun q d c i => match q with | 0 => tdW m d (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goW m d (wid (Fin.cast nCore_zero c) i)))
  dn q d c := match q with
    | 0 => (inferInstance : BI.Storable (upEmb : UEmb _ 𝕄) (bigSep Finset.univ fun i : Fin 16 => tdW m d (wid (Fin.cast nCore_zero c) i)))
  go q d c i := match q with
    | 0 => (inferInstance : BI.Storable (upEmb : UEmb _ 𝕄) (goW m d (wid (Fin.cast nCore_zero c) (Fin.cast nSub_zero i))))
  td q d c i := match q with
    | 0 => (inferInstance : BI.Storable (upEmb : UEmb _ 𝕄) (tdW m d (wid (Fin.cast nCore_zero c) (Fin.cast nSub_zero i))))

theorem vecSplit : (K (F := F)).VecSplit' (P m) 0 := by
  intro d c
  show (bigSep Finset.univ fun i : Fin 16 => goW m d (wid (Fin.cast nCore_zero c) i)) ⊢ |={Set.univ}=> iprop(
      (bigSep Finset.univ fun i : Fin 16 => goW m d (wid (Fin.cast nCore_zero c) i))
      ∗ ((bigSep Finset.univ fun i : Fin 16 => tdW m d (wid (Fin.cast nCore_zero c) i))
          -∗ (bigSep Finset.univ fun i : Fin 16 => tdW m d (wid (Fin.cast nCore_zero c) i))))
  iintro H; imodintro
  isplitl [H]; · iexact H
  iintro H; iexact H

end Cert.Proof.Emb

end
-- ==== Proof.Tile.lean ====
/-
  One tile's task of the SparseCore call, at a symbolic (core, tile) pair: the four staged copies, the loop of 32 trips of twenty
  looked-up columns each, and the copy of the 512 finished rows out to the tile's block of the embedding array.
-/
module

public import proofs.«01_k».proof.Proof.Setup

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type}

local notation "𝕄" => MT nD τ sig (HIx 1) (Elt F) ℕ UU ℕ

local notation "catM" => (Memref.whole Cert.KernelIdeal.main_v0_scv : Memref Cert.KernelIdeal.sig Kind.scVector Space.hbm Cert.KernelIdeal.S3x16384 EltTy.i32)
local notation "t1M" => (Memref.whole Cert.KernelIdeal.main_v1_scv : Memref Cert.KernelIdeal.sig Kind.scVector Space.hbm Cert.KernelIdeal.S10x133 EltTy.f32)
local notation "t2M" => (Memref.whole Cert.KernelIdeal.main_v2_scv : Memref Cert.KernelIdeal.sig Kind.scVector Space.hbm Cert.KernelIdeal.S6x13 EltTy.f32)
local notation "t3M" => (Memref.whole Cert.KernelIdeal.main_v3_scv : Memref Cert.KernelIdeal.sig Kind.scVector Space.hbm Cert.KernelIdeal.S4x9 EltTy.f32)
local notation "xeM" => (Memref.whole Cert.KernelIdeal.main_v4_scv : Memref Cert.KernelIdeal.sig Kind.scVector Space.hbm Cert.KernelIdeal.S16384x20 EltTy.f32)
local notation "sCat" => (Memref.whole Cert.KernelIdeal.cc0_scratch0 : Memref Cert.KernelIdeal.sig Kind.scVector Space.vmem Cert.KernelIdeal.S3x512 EltTy.i32)
local notation "sT1" => (Memref.whole Cert.KernelIdeal.cc0_scratch1 : Memref Cert.KernelIdeal.sig Kind.scVector Space.vmem Cert.KernelIdeal.S10x133 EltTy.f32)
local notation "sT2" => (Memref.whole Cert.KernelIdeal.cc0_scratch2 : Memref Cert.KernelIdeal.sig Kind.scVector Space.vmem Cert.KernelIdeal.S6x13 EltTy.f32)
local notation "sT3" => (Memref.whole Cert.KernelIdeal.cc0_scratch3 : Memref Cert.KernelIdeal.sig Kind.scVector Space.vmem Cert.KernelIdeal.S4x9 EltTy.f32)
local notation "sOut" => (Memref.whole Cert.KernelIdeal.cc0_scratch4 : Memref Cert.KernelIdeal.sig Kind.scVector Space.vmem Cert.KernelIdeal.S512x20 EltTy.f32)

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The block of the tile at grid point `L`. -/
abbrev wL (L : grid0.Coords) : Fin 32 := wid (Fin.cast bound_zero (L 0)) (Fin.cast bound_one (L 1))

/-! ## The tile's block of rows and of categories -/

abbrev rowK (L : grid0.Coords) : Rect S16384x20 := Rect.unit (s := S16384x20) (k0_off2 L) S512x20.size (k0_off2_inb L)
abbrev xeK (L : grid0.Coords) : Memref sig .scVector .hbm S512x20 .f32 := (xeM).slice (rowK L) (fun _ => rfl)
abbrev colK (L : grid0.Coords) : Rect S3x16384 := Rect.unit (s := S3x16384) (k0_off1 L) S3x512.size (k0_off1_inb L)
abbrev catK (L : grid0.Coords) : Memref sig .scVector .hbm S3x512 .i32 := (catM).slice (colK L) (fun _ => rfl)

theorem rowK_eq : rowK L = row (wL L) := by
  unfold rowK row Rect.part Rect.block
  congr 1 <;> funext a
  · rw [k0_off2_eq]
    match a with
    | 0 =>
      show 1024 * (L 1).val + 512 * (L 0).val = (2 * (L 1).val + (L 0).val) * 512
      omega
    | 1 => simp [Shape.partIx, Shape.partSize]
  · match a with
    | 0 => simp [Shape.partSize]
    | 1 => simp [Shape.partSize]

theorem set_xeK : (xeK L).view.set = rowSet (wL L) := by
  show ((xeM).view.slice (rowK L)).set = ((xeM).view.slice (row (wL L))).set
  exact rowK_eq L ▸ rfl

theorem pts_xeK (f : Buf (Elt F) (xeLoc d)) :
    ((xeK L).view.loc (V d (cV L) (jV L)) ↦[(xeK L).view.set]{fullShare} f : sProp 𝕄) = xeLoc d ↦[rowSet (wL L)]{fullShare} f := by
  rw [set_xeK]

/-- The row of the whole array that row `r` of the tile's block is. -/
def rowOf (L : grid0.Coords) (r : Fin 512) : Fin 16384 := ⟨1024 * (L 1).val + 512 * (L 0).val + r.val, by
  have h0 : (L 0).val < 2 := (L 0).isLt; have h1 : (L 1).val < 16 := (L 1).isLt; omega⟩

theorem rowK_emb (j : S512x20.Idx) : (rowK L).emb j = ix2 (rowOf L (j 0)) (j 1) := by
  funext a
  match a with
  | 0 => exact Fin.ext (by rw [Rect.emb_apply]; simp [k0_off2_eq, rowOf])
  | 1 => exact Fin.ext (by rw [Rect.emb_apply]; simp [k0_off2_eq])

theorem colK_emb (j : S3x512.Idx) : (colK L).emb j = ix2 (j 0) (rowOf L (j 1)) := by
  funext a
  match a with
  | 0 => exact Fin.ext (by rw [Rect.emb_apply]; simp [k0_off1_eq])
  | 1 => exact Fin.ext (by rw [Rect.emb_apply]; simp [k0_off1_eq, rowOf])

/-- The tile's block of the categories, and its block of the embedding array. -/
def catB [FloatOps F] (d : Dev nD) (L : grid0.Coords) : S3x512.Idx → BitVec 32 := fun j => (catV m d : S3x16384.Idx → BitVec 32) (ix2 (j 0) (rowOf L (j 1)))
abbrev xeB [FloatOps F] (d : Dev nD) (L : grid0.Coords) : Vec F S512x20 .f32 := gath (n := 512) (catB m d L) (t1V m d) (t2V m d) (t3V m d)

variable [FloatOps F]

/-- The block's rows are the whole array's. -/
theorem xeB_eq (j : S512x20.Idx) : xeB m d L j = (xeV m d : S16384x20.Idx → F .f32) (ix2 (rowOf L (j 0)) (j 1)) := rfl

theorem catB_lt (h : InRange m) (j : S3x512.Idx) : (catB m d L j).toNat < 9 := h d _

/-! ## One column of a trip -/

/-- The tile's block in its own memory, in full up to trip `t` and in its first `q` columns at trip `t`. -/
abbrev outAt (t q : ℕ) : sProp 𝕄 :=
  iprop(∃ g, ⌜Done (xeB m d L) t q g⌝ ∗ (V d (cV L) (jV L)).loc cc0_scratch4 ↦{fullShare} g)

/-- One look-up: sixteen values loaded out of a table by a vector of row words and one of column words, and stored down column `q`
    of the sixteen rows of trip `t`. The two `assume`s are of the bounds of the two indexed accesses. -/
theorem wp_column {t q : ℕ} {α : Type} {Q : α → sProp 𝕄} {s : Shape} {tbl : Memref sig .scVector .vmem s .f32}
    {A B : Prop} {dA : Decidable A} {dB : Decidable B} {i₁ : Fin s.rank → IVec S16 32} {r c : IVec S16 32}
    {h₁ : A → ∀ a x, (i₁ a x).toNat < s.size a} {h₂ : B → ∀ a x, ((![r, c] : Fin 2 → IVec S16 32) a x).toNat < S512x20.size a}
    {hl : tbl.view.Loads} {hs : ((sOut).access (.whole S512x20)).Stores Finset.univ}
    {k : PUnit → Prog (TpuEff nD τ sig (Elt F) Λ₀ (V d (cV L) (jV L)).2) α}
    (f : Buf (Elt F) ((tbl.access (.whole s)).loc (V d (cV L) (jV L))))
    (hA : A) (hB : B) (hr : ∀ x : S16.Idx, (r x).toNat = 16 * t + (x 0).val) (hc : ∀ x, (c x).toNat = q)
    (hv : ∀ x, loadIdx ((tbl.access (.whole s)).read (Elt F) f) i₁ (h₁ hA) x = xeB m d L (idxAt (s := S512x20) ![r, c] (h₂ hB) x)) :
    iprop(((tbl.access (.whole s)).loc (V d (cV L) (jV L)) ↦{fullShare} f) ∗ outAt m d L t q)
      ⊢ iprop(((((tbl.access (.whole s)).loc (V d (cV L) (jV L)) ↦{fullShare} f) ∗ outAt m d L t (q + 1))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.assume A dA) fun a => SparseCore.vectorLoadIdx tbl i₁ (h₁ a.down) hl >>= fun v =>
            .op (.assume B dB) fun b => SparseCore.vectorStoreIdx sOut ![r, c] v (fun _ => 1#1) false (h₂ b.down) hs >>= k) Q) := by
  iintro ⟨Ht, ⟨%g, %hg, Ho⟩⟩ Hk
  rw [wp_assume_of _ _ _ _ hA]
  iapply (SparseCore.wp_vectorLoadIdx 𝒱₀ (V d (cV L) (jV L)) none Set.univ (base := tbl) (S := Finset.univ) (q := fullShare) (Finset.subset_univ _)) $$ Ht
  iintro Ht
  rw [wp_assume_of _ _ _ _ hB]
  iapply (SparseCore.wp_vectorStoreIdx 𝒱₀ (V d (cV L) (jV L)) none Set.univ (base := sOut) (f := g)) $$ [Ho]
  · rw [Memref.set_access_whole]; iexact Ho
  iintro Ho
  iapply Hk
  isplitl [Ht]; · iexact Ht
  iexists _
  isplitr
  swap
  · rw [Memref.set_access_whole]; iexact Ho
  ipureintro
  erw [Memref.write_access_whole_univ, Memref.read_access_whole]
  exact Done.column hg (h₂ hB) hr hc hv

/-! ## The words and the values of a trip -/

/-- The row of the block lane `x` of trip `t` works on. -/
def lane (t : Fin k0_t1_loop.trips) (x : S16.Idx) : Fin 512 := ⟨16 * t.val + (x 0).val, by
  have ht : t.val < 32 := lt_of_lt_of_le t.isLt k0_t1_abs.2.1
  have hx : (x 0).val < 16 := (x 0).isLt
  omega⟩

/-- The vector `v` holds the words of row `a` of the categories at the lanes of trip `t`. -/
def Words (a : Fin 3) (t : Fin k0_t1_loop.trips) (v : IVec S16 32) : Prop := ∀ x, v x = catB m d L (ix2 a (lane t x))

/-- A pair of index vectors in bounds, axis by axis. -/
theorem inb_pair {n₀ n₁ : ℕ} {w v : IVec S16 32} (hw : ∀ x, (w x).toNat < n₀) (hv : ∀ x, (v x).toNat < n₁) :
    ∀ a x, ((![w, v] : Fin 2 → IVec S16 32) a x).toNat < (⟨2, ![n₀, n₁]⟩ : Shape).size a := fun a x =>
  match a with
  | 0 => hw x
  | 1 => hv x

variable {m d L}

theorem words_lt (hm : InRange m) {a : Fin 3} {t : Fin k0_t1_loop.trips} {v : IVec S16 32} (hv : Words m d L a t v) (x : S16.Idx) : (v x).toNat < 9 := by
  rw [hv x]; exact catB_lt m d L hm _

section Values

variable {t : Fin k0_t1_loop.trips} {r c w v : IVec S16 32}
  (hr : ∀ x : S16.Idx, (r x).toNat = 16 * t.val + (x 0).val)
  (h₂ : ∀ a x, ((![r, c] : Fin 2 → IVec S16 32) a x).toNat < S512x20.size a)

include hr in
theorem idxAt_row (x : S16.Idx) : (idxAt (s := S512x20) ![r, c] h₂ x) 0 = lane t x := Fin.ext (hr x)

include hr in
theorem first_value (l : Fin 10) (hw : ∀ x, (w x).toNat = l.val) (hc : ∀ x, (c x).toNat = l.val) (hv : Words m d L 0 t v)
    (h₁ : ∀ a x, ((![w, v] : Fin 2 → IVec S16 32) a x).toNat < S10x133.size a) (x : S16.Idx) :
    loadIdx (s := S10x133) (e := .f32) (F := F) (t1V m d) ![w, v] h₁ x = xeB m d L (idxAt (s := S512x20) ![r, c] h₂ x) := by
  have hk : (v x).toNat < 133 := h₁ 1 x
  rw [xeB, gath_first (n := 512) _ _ _ _ l ⟨(v x).toNat, hk⟩ (hc x) (by rw [idxAt_row hr h₂, ← hv x])]
  refine congrArg (t1V m d : S10x133.Idx → F .f32) (funext fun a => ?_)
  match a with
  | 0 => exact Fin.ext (hw x)
  | 1 => rfl

include hr in
theorem second_value (l : Fin 6) (hw : ∀ x, (w x).toNat = l.val) (hc : ∀ x, (c x).toNat = 10 + l.val) (hv : Words m d L 1 t v)
    (h₁ : ∀ a x, ((![w, v] : Fin 2 → IVec S16 32) a x).toNat < S6x13.size a) (x : S16.Idx) :
    loadIdx (s := S6x13) (e := .f32) (F := F) (t2V m d) ![w, v] h₁ x = xeB m d L (idxAt (s := S512x20) ![r, c] h₂ x) := by
  have hk : (v x).toNat < 13 := h₁ 1 x
  rw [xeB, gath_second (n := 512) _ _ _ _ l ⟨(v x).toNat, hk⟩ (hc x) (by rw [idxAt_row hr h₂, ← hv x])]
  refine congrArg (t2V m d : S6x13.Idx → F .f32) (funext fun a => ?_)
  match a with
  | 0 => exact Fin.ext (hw x)
  | 1 => rfl

include hr in
theorem third_value (l : Fin 4) (hw : ∀ x, (w x).toNat = l.val) (hc : ∀ x, (c x).toNat = 16 + l.val) (hv : Words m d L 2 t v)
    (h₁ : ∀ a x, ((![w, v] : Fin 2 → IVec S16 32) a x).toNat < S4x9.size a) (x : S16.Idx) :
    loadIdx (s := S4x9) (e := .f32) (F := F) (t3V m d) ![w, v] h₁ x = xeB m d L (idxAt (s := S512x20) ![r, c] h₂ x) := by
  have hk : (v x).toNat < 9 := h₁ 1 x
  rw [xeB, gath_third (n := 512) _ _ _ _ l ⟨(v x).toNat, hk⟩ (hc x) (by rw [idxAt_row hr h₂, ← hv x])]
  refine congrArg (t3V m d : S4x9.Idx → F .f32) (funext fun a => ?_)
  match a with
  | 0 => exact Fin.ext (hw x)
  | 1 => rfl

end Values

variable (m d L)

/-- The rows of trip `t`, as the body computes them. -/
abbrev rowsAt (t : Fin k0_t1_loop.trips) : IVec S16 32 := k0_pay1 (iota .scVector S16 32 [0] iota_S16_d0_w32_scVector) 0#32 1#32 t

theorem rows_lt (t : Fin k0_t1_loop.trips) (x : S16.Idx) : (rowsAt t x).toNat < 512 := by
  rw [rows_trip]; exact (lane t x).isLt

theorem rows_inb (t : Fin k0_t1_loop.trips) {c : IVec S16 32} {q : ℕ} (hc : ∀ x, (c x).toNat = q) (hq : q < 20) :
    ∀ a x, ((![rowsAt t, c] : Fin 2 → IVec S16 32) a x).toNat < S512x20.size a :=
  inb_pair (rows_lt t) fun x => (hc x).trans_lt hq

/-- The load of one row of the categories at the lanes of trip `t`. -/
theorem wp_words {t : Fin k0_t1_loop.trips} {a : ℕ} {α : Type} {Q : α → sProp 𝕄}
    {dA : Decidable (∀ b x, ((![broadcast S16 (BitVec.ofNat 32 a), rowsAt t] : Fin 2 → IVec S16 32) b x).toNat < S3x512.size b)}
    {hl : (sCat).view.Loads} {k : Vec F S16 .i32 → Prog (TpuEff nD τ sig (Elt F) Λ₀ (V d (cV L) (jV L)).2) α} (ha : Fin 3) :
    iprop(⌜a = ha.val⌝ ∗ (V d (cV L) (jV L)).loc cc0_scratch0 ↦{fullShare} catB m d L)
      ⊢ iprop((∀ v, ⌜Words m d L ha t v⌝ -∗ ((V d (cV L) (jV L)).loc cc0_scratch0 ↦{fullShare} catB m d L)
          -∗ wp frame (wpE (defs₀ (F := F)) 𝒱₀ (V d (cV L) (jV L)) none) Set.univ (k v) Q)
        -∗ wp frame (wpE (defs₀ (F := F)) 𝒱₀ (V d (cV L) (jV L)) none) Set.univ
          (.op (.assume _ dA) fun h => SparseCore.vectorLoadIdx sCat ![broadcast S16 (BitVec.ofNat 32 a), rowsAt t] h.down hl >>= k) Q) := by
  iintro ⟨%h, Hc⟩ Hk
  have h3 := ha.isLt
  have hw : ∀ x, (broadcast S16 (BitVec.ofNat 32 a) x).toNat = ha.val := fun _ => (Nat.mod_eq_of_lt (by omega)).trans h
  have hA := inb_pair (n₀ := 3) (n₁ := 512) (fun x => (hw x).trans_lt ha.isLt) (rows_lt t)
  rw [wp_assume_of _ _ _ _ hA]
  iapply (SparseCore.wp_vectorLoadIdx 𝒱₀ (V d (cV L) (jV L)) none Set.univ (base := sCat) (S := Finset.univ) (q := fullShare) (Finset.subset_univ _)) $$ Hc
  iintro Hc
  ispecialize Hk $$ %_
  iapply Hk $$ [] Hc
  ipureintro
  intro x
  erw [Memref.read_access_whole]
  refine congrArg (catB m d L) (funext fun b => ?_)
  match b with
  | 0 => exact Fin.ext (hw x)
  | 1 => exact Fin.ext (rows_trip t x)

/-- A column out of the first table: `l`, of its ten. -/
theorem wp_first (hm : InRange m) {t : Fin k0_t1_loop.trips} {v : IVec S16 32} (hv : Words m d L 0 t v) {l q : ℕ} {α : Type} {Q : α → sProp 𝕄}
    {dA : Decidable (∀ a x, ((![broadcast S16 (BitVec.ofNat 32 l), v] : Fin 2 → IVec S16 32) a x).toNat < S10x133.size a)}
    {dB : Decidable (∀ a x, ((![rowsAt t, broadcast S16 (BitVec.ofNat 32 q)] : Fin 2 → IVec S16 32) a x).toNat < S512x20.size a)}
    {hl : (sT1).view.Loads} {hs : ((sOut).access (.whole S512x20)).Stores Finset.univ}
    {k : PUnit → Prog (TpuEff nD τ sig (Elt F) Λ₀ (V d (cV L) (jV L)).2) α} :
    iprop(⌜l < 10 ∧ q = l⌝ ∗ ((V d (cV L) (jV L)).loc cc0_scratch1 ↦{fullShare} t1V m d) ∗ outAt m d L t.val q)
      ⊢ iprop(((((V d (cV L) (jV L)).loc cc0_scratch1 ↦{fullShare} t1V m d) ∗ outAt m d L t.val (q + 1))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.assume _ dA) fun a => SparseCore.vectorLoadIdx sT1 ![broadcast S16 (BitVec.ofNat 32 l), v] a.down hl >>= fun w =>
            .op (.assume _ dB) fun b => SparseCore.vectorStoreIdx sOut ![rowsAt t, broadcast S16 (BitVec.ofNat 32 q)] w (fun _ => 1#1) false b.down hs >>= k) Q) := by
  iintro ⟨%hq, H⟩
  have hlt := hq.1
  have hc : ∀ x, (broadcast S16 (BitVec.ofNat 32 q) x).toNat = q := fun _ => Nat.mod_eq_of_lt (by omega)
  have hw : ∀ x, (broadcast S16 (BitVec.ofNat 32 l) x).toNat = l := fun _ => Nat.mod_eq_of_lt (by omega)
  have hA := inb_pair (n₀ := 10) (n₁ := 133) (fun x => (hw x).trans_lt hq.1) (fun x => (words_lt hm hv x).trans_le (by decide))
  have hB := rows_inb t hc (by omega)
  iapply (wp_column m d L (tbl := sT1) (h₁ := id) (h₂ := id) (t1V m d) hA hB (rows_trip t) hc (fun x => by
    erw [Memref.read_access_whole]
    exact first_value (rows_trip t) hB ⟨l, hq.1⟩ hw (fun x => (hc x).trans hq.2) hv hA x)) $$ H

/-- A column out of the second table: `10 + l`, of its six. -/
theorem wp_second (hm : InRange m) {t : Fin k0_t1_loop.trips} {v : IVec S16 32} (hv : Words m d L 1 t v) {l q : ℕ} {α : Type} {Q : α → sProp 𝕄}
    {dA : Decidable (∀ a x, ((![broadcast S16 (BitVec.ofNat 32 l), v] : Fin 2 → IVec S16 32) a x).toNat < S6x13.size a)}
    {dB : Decidable (∀ a x, ((![rowsAt t, broadcast S16 (BitVec.ofNat 32 q)] : Fin 2 → IVec S16 32) a x).toNat < S512x20.size a)}
    {hl : (sT2).view.Loads} {hs : ((sOut).access (.whole S512x20)).Stores Finset.univ}
    {k : PUnit → Prog (TpuEff nD τ sig (Elt F) Λ₀ (V d (cV L) (jV L)).2) α} :
    iprop(⌜l < 6 ∧ q = 10 + l⌝ ∗ ((V d (cV L) (jV L)).loc cc0_scratch2 ↦{fullShare} t2V m d) ∗ outAt m d L t.val q)
      ⊢ iprop(((((V d (cV L) (jV L)).loc cc0_scratch2 ↦{fullShare} t2V m d) ∗ outAt m d L t.val (q + 1))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.assume _ dA) fun a => SparseCore.vectorLoadIdx sT2 ![broadcast S16 (BitVec.ofNat 32 l), v] a.down hl >>= fun w =>
            .op (.assume _ dB) fun b => SparseCore.vectorStoreIdx sOut ![rowsAt t, broadcast S16 (BitVec.ofNat 32 q)] w (fun _ => 1#1) false b.down hs >>= k) Q) := by
  iintro ⟨%hq, H⟩
  have hlt := hq.1
  have hc : ∀ x, (broadcast S16 (BitVec.ofNat 32 q) x).toNat = q := fun _ => Nat.mod_eq_of_lt (by omega)
  have hw : ∀ x, (broadcast S16 (BitVec.ofNat 32 l) x).toNat = l := fun _ => Nat.mod_eq_of_lt (by omega)
  have hA := inb_pair (n₀ := 6) (n₁ := 13) (fun x => (hw x).trans_lt hq.1) (fun x => (words_lt hm hv x).trans_le (by decide))
  have hB := rows_inb t hc (by omega)
  iapply (wp_column m d L (tbl := sT2) (h₁ := id) (h₂ := id) (t2V m d) hA hB (rows_trip t) hc (fun x => by
    erw [Memref.read_access_whole]
    exact second_value (rows_trip t) hB ⟨l, hq.1⟩ hw (fun x => (hc x).trans hq.2) hv hA x)) $$ H

/-- A column out of the third table: `16 + l`, of its four. -/
theorem wp_third (hm : InRange m) {t : Fin k0_t1_loop.trips} {v : IVec S16 32} (hv : Words m d L 2 t v) {l q : ℕ} {α : Type} {Q : α → sProp 𝕄}
    {dA : Decidable (∀ a x, ((![broadcast S16 (BitVec.ofNat 32 l), v] : Fin 2 → IVec S16 32) a x).toNat < S4x9.size a)}
    {dB : Decidable (∀ a x, ((![rowsAt t, broadcast S16 (BitVec.ofNat 32 q)] : Fin 2 → IVec S16 32) a x).toNat < S512x20.size a)}
    {hl : (sT3).view.Loads} {hs : ((sOut).access (.whole S512x20)).Stores Finset.univ}
    {k : PUnit → Prog (TpuEff nD τ sig (Elt F) Λ₀ (V d (cV L) (jV L)).2) α} :
    iprop(⌜l < 4 ∧ q = 16 + l⌝ ∗ ((V d (cV L) (jV L)).loc cc0_scratch3 ↦{fullShare} t3V m d) ∗ outAt m d L t.val q)
      ⊢ iprop(((((V d (cV L) (jV L)).loc cc0_scratch3 ↦{fullShare} t3V m d) ∗ outAt m d L t.val (q + 1))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.assume _ dA) fun a => SparseCore.vectorLoadIdx sT3 ![broadcast S16 (BitVec.ofNat 32 l), v] a.down hl >>= fun w =>
            .op (.assume _ dB) fun b => SparseCore.vectorStoreIdx sOut ![rowsAt t, broadcast S16 (BitVec.ofNat 32 q)] w (fun _ => 1#1) false b.down hs >>= k) Q) := by
  iintro ⟨%hq, H⟩
  have hlt := hq.1
  have hc : ∀ x, (broadcast S16 (BitVec.ofNat 32 q) x).toNat = q := fun _ => Nat.mod_eq_of_lt (by omega)
  have hw : ∀ x, (broadcast S16 (BitVec.ofNat 32 l) x).toNat = l := fun _ => Nat.mod_eq_of_lt (by omega)
  have hA := inb_pair (n₀ := 4) (n₁ := 9) (fun x => (hw x).trans_lt hq.1) (fun x => (words_lt hm hv x).trans_le (by decide))
  have hB := rows_inb t hc (by omega)
  iapply (wp_column m d L (tbl := sT3) (h₁ := id) (h₂ := id) (t3V m d) hA hB (rows_trip t) hc (fun x => by
    erw [Memref.read_access_whole]
    exact third_value (rows_trip t) hB ⟨l, hq.1⟩ hw (fun x => (hc x).trans hq.2) hv hA x)) $$ H

/-! ## A trip of the loop -/

/-- The store of sixteen values of column `q`, of which the bounds are already known. -/
theorem wp_put {t : Fin k0_t1_loop.trips} {q : ℕ} {v : Vec F S16 .f32} {α : Type} {Q : α → sProp 𝕄}
    {h₂ : ∀ a x, ((![rowsAt t, broadcast S16 (BitVec.ofNat 32 q)] : Fin 2 → IVec S16 32) a x).toNat < S512x20.size a}
    {hs : ((sOut).access (.whole S512x20)).Stores Finset.univ} {k : PUnit → Prog (TpuEff nD τ sig (Elt F) Λ₀ (V d (cV L) (jV L)).2) α} :
    iprop(⌜q < 20 ∧ ∀ x, v x = xeB m d L (idxAt (s := S512x20) ![rowsAt t, broadcast S16 (BitVec.ofNat 32 q)] h₂ x)⌝ ∗ outAt m d L t.val q)
      ⊢ iprop((outAt m d L t.val (q + 1) -∗ wp frame (wpE (defs₀ (F := F)) 𝒱₀ (V d (cV L) (jV L)) none) Set.univ (k ⟨⟩) Q)
        -∗ wp frame (wpE (defs₀ (F := F)) 𝒱₀ (V d (cV L) (jV L)) none) Set.univ
          (SparseCore.vectorStoreIdx sOut ![rowsAt t, broadcast S16 (BitVec.ofNat 32 q)] v (fun _ => 1#1) false h₂ hs >>= k) Q) := by
  iintro ⟨%hv, ⟨%g, %hg, Ho⟩⟩ Hk
  iapply (SparseCore.wp_vectorStoreIdx 𝒱₀ (V d (cV L) (jV L)) none Set.univ (base := sOut) (f := g)) $$ [Ho]
  · rw [Memref.set_access_whole]; iexact Ho
  iintro Ho
  iapply Hk
  iexists _
  isplitr
  swap
  · rw [Memref.set_access_whole]; iexact Ho
  ipureintro
  erw [Memref.write_access_whole_univ, Memref.read_access_whole]
  exact Done.column hg h₂ (rows_trip t) (fun _ => Nat.mod_eq_of_lt (by have := hv.1; omega)) hv.2

set_option maxHeartbeats 400000 in
/-- The first part of a trip: the three vectors of words, and the columns 0–4. -/
theorem wp_part1 (hm : InRange m) (t : Fin k0_t1_loop.trips) (Q : _ → sProp 𝕄) :
    iprop(((V d (cV L) (jV L)).loc cc0_scratch0 ↦{fullShare} catB m d L) ∗ ((V d (cV L) (jV L)).loc cc0_scratch1 ↦{fullShare} t1V m d)
        ∗ outAt m d L t.val 0)
      ⊢ iprop((∀ c₀, ∀ c₁, ∀ c₂, ∀ h : k0_chk14 c₀ (broadcast S16 5#32), ⌜Words m d L 0 t c₀ ∧ Words m d L 1 t c₁ ∧ Words m d L 2 t c₂⌝
          -∗ ((V d (cV L) (jV L)).loc cc0_scratch0 ↦{fullShare} catB m d L) -∗ ((V d (cV L) (jV L)).loc cc0_scratch1 ↦{fullShare} t1V m d)
          -∗ outAt m d L t.val 5 -∗ Q ⟨rowsAt t, c₀, c₁, c₂, broadcast S16 5#32, h⟩)
        -∗ wp frame (wpE (defs₀ (F := F)) 𝒱₀ (V d (cV L) (jV L)) none) Set.univ
          (k0_part1 L catM (Memref.isWhole_whole _) t1M (Memref.isWhole_whole _) t2M (Memref.isWhole_whole _) t3M (Memref.isWhole_whole _)
            xeM (Memref.isWhole_whole _) sCat (Memref.isWhole_whole _) sT1 (Memref.isWhole_whole _) sT2 (Memref.isWhole_whole _)
            sT3 (Memref.isWhole_whole _) sOut (Memref.isWhole_whole _) cc0_scratch5 cc0_scratch6 cc0_scratch7 cc0_scratch8 cc0_scoped0
            (iota .scVector S16 32 [0] iota_S16_d0_w32_scVector) 0#32 1#32 t) Q) := by
  iintro ⟨Hc, H1, Ho⟩ HQ
  simp only [k0_part1_eq_skeleton, k0_part1_skel, Prog.lift, bind_assoc, Prog.bind_op, Prog.bind_ret, pure_bind]
  iapply (wp_words m d L 0) $$ [Hc]
  · isplitr; · ipureintro; rfl
    iexact Hc
  iintro %c₀ %h₀ Hc
  iapply (wp_words m d L 1) $$ [Hc]
  · isplitr; · ipureintro; rfl
    iexact Hc
  iintro %c₁ %h₁ Hc
  iapply (wp_words m d L 2) $$ [Hc]
  · isplitr; · ipureintro; rfl
    iexact Hc
  iintro %c₂ %h₂ Hc
  iterate 5
    iapply (wp_first m d L hm h₀) $$ [H1 Ho]
    · isplitr; · ipureintro; decide
      isplitl [H1]; · iexact H1
      iexact Ho
    iintro ⟨H1, Ho⟩
  have hA : k0_chk14 c₀ (broadcast S16 5#32) :=
    inb_pair (n₀ := 10) (n₁ := 133) (fun _ => (by decide : (5#32).toNat < 10)) fun x => (words_lt hm h₀ x).trans_le (by decide)
  rw [wp_assume_of _ _ _ _ hA, wp_pure]
  imodintro
  ispecialize HQ $$ %c₀ %c₁ %c₂ %hA
  iapply HQ $$ [] Hc H1 Ho
  ipureintro
  exact ⟨h₀, h₁, h₂⟩

set_option maxHeartbeats 400000 in
/-- The second part of a trip: the columns 5–11, and the values of column 12. -/
theorem wp_part2 (hm : InRange m) (t : Fin k0_t1_loop.trips) {c₀ c₁ : IVec S16 32} (h₀ : Words m d L 0 t c₀) (h₁ : Words m d L 1 t c₁)
    {h : k0_chk14 c₀ (broadcast S16 5#32)} (Q : _ → sProp 𝕄) :
    iprop(((V d (cV L) (jV L)).loc cc0_scratch1 ↦{fullShare} t1V m d) ∗ ((V d (cV L) (jV L)).loc cc0_scratch2 ↦{fullShare} t2V m d)
        ∗ outAt m d L t.val 5)
      ⊢ iprop((∀ v, ∀ h : k0_chk29 (rowsAt t) (broadcast S16 12#32), ⌜∀ x, v x = xeB m d L (idxAt (s := S512x20) ![rowsAt t, broadcast S16 12#32] (k0_idx29_inb _ _ h) x)⌝
          -∗ ((V d (cV L) (jV L)).loc cc0_scratch1 ↦{fullShare} t1V m d) -∗ ((V d (cV L) (jV L)).loc cc0_scratch2 ↦{fullShare} t2V m d)
          -∗ outAt m d L t.val 12 -∗ Q ⟨v, broadcast S16 12#32, h⟩)
        -∗ wp frame (wpE (defs₀ (F := F)) 𝒱₀ (V d (cV L) (jV L)) none) Set.univ
          (k0_part2 L catM (Memref.isWhole_whole _) t1M (Memref.isWhole_whole _) t2M (Memref.isWhole_whole _) t3M (Memref.isWhole_whole _)
            xeM (Memref.isWhole_whole _) sCat (Memref.isWhole_whole _) sT1 (Memref.isWhole_whole _) sT2 (Memref.isWhole_whole _)
            sT3 (Memref.isWhole_whole _) sOut (Memref.isWhole_whole _) cc0_scratch5 cc0_scratch6 cc0_scratch7 cc0_scratch8 cc0_scoped0
            (rowsAt t) c₀ c₁ (broadcast S16 5#32) h) Q) := by
  iintro ⟨H1, H2, Ho⟩ HQ
  simp only [k0_part2_eq_skeleton, k0_part2_skel, Prog.lift, bind_assoc, Prog.bind_op, Prog.bind_ret, pure_bind]
  iapply (SparseCore.wp_vectorLoadIdx 𝒱₀ (V d (cV L) (jV L)) none Set.univ (base := sT1) (S := Finset.univ) (q := fullShare) (Finset.subset_univ _)) $$ H1
  iintro H1
  have hB : k0_chk15 (rowsAt t) (broadcast S16 5#32) := rows_inb t (q := 5) (fun _ => rfl) (by decide)
  rw [wp_assume_of _ _ _ _ hB]
  iapply (wp_put m d L (q := 5)) $$ [Ho]
  · isplitr
    · ipureintro
      refine ⟨by decide, fun x => ?_⟩
      erw [Memref.read_access_whole]
      exact first_value (w := broadcast S16 5#32) (rows_trip t) hB 5 (fun _ => rfl) (fun _ => rfl) h₀ h x
    iexact Ho
  iintro Ho
  iterate 4
    iapply (wp_first m d L hm h₀) $$ [H1 Ho]
    · isplitr; · ipureintro; decide
      isplitl [H1]; · iexact H1
      iexact Ho
    iintro ⟨H1, Ho⟩
  iterate 2
    iapply (wp_second m d L hm h₁) $$ [H2 Ho]
    · isplitr; · ipureintro; decide
      isplitl [H2]; · iexact H2
      iexact Ho
    iintro ⟨H2, Ho⟩
  have hA : k0_chk28 c₁ (broadcast S16 2#32) :=
    inb_pair (n₀ := 6) (n₁ := 13) (fun _ => (by decide : (2#32).toNat < 6)) fun x => (words_lt hm h₁ x).trans_le (by decide)
  rw [wp_assume_of _ _ _ _ hA]
  iapply (SparseCore.wp_vectorLoadIdx 𝒱₀ (V d (cV L) (jV L)) none Set.univ (base := sT2) (S := Finset.univ) (q := fullShare) (Finset.subset_univ _)) $$ H2
  iintro H2
  have hB : k0_chk29 (rowsAt t) (broadcast S16 12#32) := rows_inb t (q := 12) (fun _ => rfl) (by decide)
  rw [wp_assume_of _ _ _ _ hB, wp_pure]
  imodintro
  ispecialize HQ $$ %_ %hB
  iapply HQ $$ [] H1 H2 Ho
  ipureintro
  intro x
  erw [Memref.read_access_whole]
  exact second_value (w := broadcast S16 2#32) (rows_trip t) hB 2 (fun _ => rfl) (fun _ => rfl) h₁ hA x

set_option maxHeartbeats 400000 in
/-- A trip of the loop: sixteen rows of the block, all twenty columns. -/
theorem trip (hm : InRange m) (t : Fin k0_t1_loop.trips) (fc : Buf (Elt F) ((V d (cV L) (jV L)).loc cc0_scratch0)) (hfc : fc = catB m d L) (Q : Unit → sProp 𝕄) :
    iprop(((V d (cV L) (jV L)).loc cc0_scratch0 ↦{fullShare} fc) ∗ ((V d (cV L) (jV L)).loc cc0_scratch1 ↦{fullShare} t1V m d)
        ∗ ((V d (cV L) (jV L)).loc cc0_scratch2 ↦{fullShare} t2V m d) ∗ ((V d (cV L) (jV L)).loc cc0_scratch3 ↦{fullShare} t3V m d)
        ∗ outAt m d L t.val 0
        ∗ ((((V d (cV L) (jV L)).loc cc0_scratch0 ↦{fullShare} fc) ∗ ((V d (cV L) (jV L)).loc cc0_scratch1 ↦{fullShare} t1V m d)
          ∗ ((V d (cV L) (jV L)).loc cc0_scratch2 ↦{fullShare} t2V m d) ∗ ((V d (cV L) (jV L)).loc cc0_scratch3 ↦{fullShare} t3V m d)
          ∗ outAt m d L (t.val + 1) 0) -∗ Q ()))
      ⊢ wp frame (wpE (defs₀ (F := F)) 𝒱₀ (V d (cV L) (jV L)) none) Set.univ
          (k0_t1_body L catM (Memref.isWhole_whole _) t1M (Memref.isWhole_whole _) t2M (Memref.isWhole_whole _) t3M (Memref.isWhole_whole _)
            xeM (Memref.isWhole_whole _) sCat (Memref.isWhole_whole _) sT1 (Memref.isWhole_whole _) sT2 (Memref.isWhole_whole _)
            sT3 (Memref.isWhole_whole _) sOut (Memref.isWhole_whole _) cc0_scratch5 cc0_scratch6 cc0_scratch7 cc0_scratch8 cc0_scoped0
            (iota .scVector S16 32 [0] iota_S16_d0_w32_scVector) t ()) Q := by
  subst hfc
  iintro ⟨Hc, H1, H2, H3, Ho, HQ⟩
  unfold k0_t1_body
  rw [wp_bind]
  iapply (wp_part1 m d L hm t _) $$ [Hc H1 Ho]
  · isplitl [Hc]; · iexact Hc
    isplitl [H1]; · iexact H1
    iexact Ho
  iintro %c₀ %c₁ %c₂ %h %hw Hc H1 Ho
  obtain ⟨h₀, h₁, h₂⟩ := hw
  dsimp only
  rw [wp_bind]
  iapply (wp_part2 m d L hm t h₀ h₁ _) $$ [H1 H2 Ho]
  · isplitl [H1]; · iexact H1
    isplitl [H2]; · iexact H2
    iexact Ho
  iintro %v %h' %hv H1 H2 Ho
  simp only [Prog.lift, bind_assoc, Prog.bind_op, Prog.bind_ret, pure_bind]
  iapply (wp_put m d L (q := 12)) $$ [Ho]
  · isplitr; · ipureintro; exact ⟨by decide, hv⟩
    iexact Ho
  iintro Ho
  iterate 3
    iapply (wp_second m d L hm h₁) $$ [H2 Ho]
    · isplitr; · ipureintro; decide
      isplitl [H2]; · iexact H2
      iexact Ho
    iintro ⟨H2, Ho⟩
  iterate 4
    iapply (wp_third m d L hm h₂) $$ [H3 Ho]
    · isplitr; · ipureintro; decide
      isplitl [H3]; · iexact H3
      iexact Ho
    iintro ⟨H3, Ho⟩
  rw [wp_pure]
  imodintro
  iapply HQ
  isplitl [Hc]; · iexact Hc
  isplitl [H1]; · iexact H1
  isplitl [H2]; · iexact H2
  isplitl [H3]; · iexact H3
  icases Ho with ⟨%g, %hg, Ho⟩
  iexists g
  isplitr; · ipureintro; exact hg.next
  iexact Ho

end Tile

end Cert.Proof.Emb

end
-- ==== Proof.TileBody.lean ====
/-
  The whole of one tile's task: the four fetches, the thirty-two trips, and the copy of the block out to the embedding array.
-/
module

public import proofs.«01_k».proof.Proof.Tile

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type}

local notation "𝕄" => MT nD τ sig (HIx 1) (Elt F) ℕ UU ℕ

local notation "catM" => (Memref.whole Cert.KernelIdeal.main_v0_scv : Memref Cert.KernelIdeal.sig Kind.scVector Space.hbm Cert.KernelIdeal.S3x16384 EltTy.i32)
local notation "t1M" => (Memref.whole Cert.KernelIdeal.main_v1_scv : Memref Cert.KernelIdeal.sig Kind.scVector Space.hbm Cert.KernelIdeal.S10x133 EltTy.f32)
local notation "t2M" => (Memref.whole Cert.KernelIdeal.main_v2_scv : Memref Cert.KernelIdeal.sig Kind.scVector Space.hbm Cert.KernelIdeal.S6x13 EltTy.f32)
local notation "t3M" => (Memref.whole Cert.KernelIdeal.main_v3_scv : Memref Cert.KernelIdeal.sig Kind.scVector Space.hbm Cert.KernelIdeal.S4x9 EltTy.f32)
local notation "xeM" => (Memref.whole Cert.KernelIdeal.main_v4_scv : Memref Cert.KernelIdeal.sig Kind.scVector Space.hbm Cert.KernelIdeal.S16384x20 EltTy.f32)
local notation "sCat" => (Memref.whole Cert.KernelIdeal.cc0_scratch0 : Memref Cert.KernelIdeal.sig Kind.scVector Space.vmem Cert.KernelIdeal.S3x512 EltTy.i32)
local notation "sT1" => (Memref.whole Cert.KernelIdeal.cc0_scratch1 : Memref Cert.KernelIdeal.sig Kind.scVector Space.vmem Cert.KernelIdeal.S10x133 EltTy.f32)
local notation "sT2" => (Memref.whole Cert.KernelIdeal.cc0_scratch2 : Memref Cert.KernelIdeal.sig Kind.scVector Space.vmem Cert.KernelIdeal.S6x13 EltTy.f32)
local notation "sT3" => (Memref.whole Cert.KernelIdeal.cc0_scratch3 : Memref Cert.KernelIdeal.sig Kind.scVector Space.vmem Cert.KernelIdeal.S4x9 EltTy.f32)
local notation "sOut" => (Memref.whole Cert.KernelIdeal.cc0_scratch4 : Memref Cert.KernelIdeal.sig Kind.scVector Space.vmem Cert.KernelIdeal.S512x20 EltTy.f32)

variable (m : (ℓ : Loc nD τ sig) → Buf (Elt F) ℓ)

variable (d : Dev nD) (L : grid0.Coords)

/-! ## The tile's own cells and buffers, named -/

/-- The DMA cell `s` of the tile at grid point `L`. -/
abbrev cell (s : DmaSems sig S_) : GSem nD τ sig := (V d (cV L) (jV L), .dma s.sem)

theorem cell_mem {s : DmaSems sig S_} (h : (SemLoc.dma s.sem : SemLoc sig).isScoped .scVector = true) :
    cell d L s ∈ ownCells (V d (cV L) (jV L)) := mem_ownCells.mpr ⟨rfl, h⟩

theorem cell_ne {s s' : DmaSems sig S_} (h : (SemLoc.dma s.sem : SemLoc sig) ≠ .dma s'.sem) : cell d L s ≠ cell d L s' :=
  fun e => h (congrArg Prod.snd e)

theorem sems_tile :
    (ownSems0 (V d (cV L) (jV L)) : sProp 𝕄)
      = iprop(semVal (cell d L cc0_scratch5) 0 ∗ semVal (cell d L cc0_scratch6) 0 ∗ semVal (cell d L cc0_scratch7) 0
          ∗ semVal (cell d L cc0_scratch8) 0 ∗ semVal (cell d L cc0_scoped0) 0
          ∗ bigSep ((((((ownCells (V d (cV L) (jV L))).erase (cell d L cc0_scratch5)).erase (cell d L cc0_scratch6)).erase
              (cell d L cc0_scratch7)).erase (cell d L cc0_scratch8)).erase (cell d L cc0_scoped0)) fun g => semVal g 0) := by
  unfold SparseCore.Cfg.ownSems0
  have m5 := cell_mem d L (s := cc0_scratch5) (by decide)
  have m6 := Finset.mem_erase.mpr ⟨cell_ne d L (s := cc0_scratch6) (s' := cc0_scratch5) (by decide), cell_mem d L (s := cc0_scratch6) (by decide)⟩
  have m7 := Finset.mem_erase.mpr ⟨cell_ne d L (s := cc0_scratch7) (s' := cc0_scratch6) (by decide),
    Finset.mem_erase.mpr ⟨cell_ne d L (s := cc0_scratch7) (s' := cc0_scratch5) (by decide), cell_mem d L (s := cc0_scratch7) (by decide)⟩⟩
  have m8 := Finset.mem_erase.mpr ⟨cell_ne d L (s := cc0_scratch8) (s' := cc0_scratch7) (by decide),
    Finset.mem_erase.mpr ⟨cell_ne d L (s := cc0_scratch8) (s' := cc0_scratch6) (by decide),
      Finset.mem_erase.mpr ⟨cell_ne d L (s := cc0_scratch8) (s' := cc0_scratch5) (by decide), cell_mem d L (s := cc0_scratch8) (by decide)⟩⟩⟩
  have m9 := Finset.mem_erase.mpr ⟨cell_ne d L (s := cc0_scoped0) (s' := cc0_scratch8) (by decide),
    Finset.mem_erase.mpr ⟨cell_ne d L (s := cc0_scoped0) (s' := cc0_scratch7) (by decide),
      Finset.mem_erase.mpr ⟨cell_ne d L (s := cc0_scoped0) (s' := cc0_scratch6) (by decide),
        Finset.mem_erase.mpr ⟨cell_ne d L (s := cc0_scoped0) (s' := cc0_scratch5) (by decide), cell_mem d L (s := cc0_scoped0) (by decide)⟩⟩⟩⟩
  rw [SparseCore.bigSep_erase' m5, SparseCore.bigSep_erase' m6, SparseCore.bigSep_erase' m7, SparseCore.bigSep_erase' m8, SparseCore.bigSep_erase' m9]

/-- The buffer `b` of the tile at grid point `L`. -/
abbrev ref (b : Ref sig .scVector) : DevRef τ sig := (Proc.scVector (cV L) (jV L)).devRef b

theorem ref_ne {b b' : Ref sig .scVector} (h : b ≠ b') : ref L b ≠ ref L b' := fun e => h (Proc.devRef_injective _ e)

theorem bufs_tile :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((ownRefs (τ := τ) (.scVector (cV L) (jV L))).erase (ref L cc0_scratch0)).erase (ref L cc0_scratch1)).erase
              (ref L cc0_scratch2)).erase (ref L cc0_scratch3)).erase (ref L cc0_scratch4))
              fun b => iprop(∃ f, ((d, b) : Loc nD τ sig) ↦{fullShare} f)) := by
  unfold SparseCore.Cfg.ownBufs
  have own (b : Ref sig .scVector) (h : (ref L b).owner = .proc (Proc.scVector (cV L) (jV L))) : ref L b ∈ ownRefs (τ := τ) (.scVector (cV L) (jV L)) :=
    SparseCore.Cfg.mem_ownRefs_of_owner h
  have m0 := own cc0_scratch0 rfl
  have m1 := Finset.mem_erase.mpr ⟨ref_ne L (b := cc0_scratch1) (b' := cc0_scratch0) (by decide), own cc0_scratch1 rfl⟩
  have m2 := Finset.mem_erase.mpr ⟨ref_ne L (b := cc0_scratch2) (b' := cc0_scratch1) (by decide),
    Finset.mem_erase.mpr ⟨ref_ne L (b := cc0_scratch2) (b' := cc0_scratch0) (by decide), own cc0_scratch2 rfl⟩⟩
  have m3 := Finset.mem_erase.mpr ⟨ref_ne L (b := cc0_scratch3) (b' := cc0_scratch2) (by decide),
    Finset.mem_erase.mpr ⟨ref_ne L (b := cc0_scratch3) (b' := cc0_scratch1) (by decide),
      Finset.mem_erase.mpr ⟨ref_ne L (b := cc0_scratch3) (b' := cc0_scratch0) (by decide), own cc0_scratch3 rfl⟩⟩⟩
  have m4 := Finset.mem_erase.mpr ⟨ref_ne L (b := cc0_scratch4) (b' := cc0_scratch3) (by decide),
    Finset.mem_erase.mpr ⟨ref_ne L (b := cc0_scratch4) (b' := cc0_scratch2) (by decide),
      Finset.mem_erase.mpr ⟨ref_ne L (b := cc0_scratch4) (b' := cc0_scratch1) (by decide),
        Finset.mem_erase.mpr ⟨ref_ne L (b := cc0_scratch4) (b' := cc0_scratch0) (by decide), own cc0_scratch4 rfl⟩⟩⟩⟩
  refine (SparseCore.bigSep_erase' m0).trans ?_
  rw [SparseCore.bigSep_erase' m1, SparseCore.bigSep_erase' m2, SparseCore.bigSep_erase' m3, SparseCore.bigSep_erase' m4]

variable [FloatOps F]

/-! ## The loop -/

/-- Between trips: the fetched categories and tables, and the block filled up to trip `t`. -/
def loopInv (t : ℕ) (_ : Unit) : sProp 𝕄 :=
  iprop(((V d (cV L) (jV L)).loc cc0_scratch0 ↦{fullShare} catB m d L) ∗ ((V d (cV L) (jV L)).loc cc0_scratch1 ↦{fullShare} t1V m d)
    ∗ ((V d (cV L) (jV L)).loc cc0_scratch2 ↦{fullShare} t2V m d) ∗ ((V d (cV L) (jV L)).loc cc0_scratch3 ↦{fullShare} t3V m d)
    ∗ outAt m d L t 0)

/-! ## The task -/

/-- What a fetch of a table leaves in the tile's buffer is the table; what the fetch of the tile's columns of the categories leaves is
    the tile's block of them. -/
theorem fetched_cat (f : Buf (Elt F) ((V d (cV L) (jV L)).loc cc0_scratch0)) :
    ((sCat).view.loc (V d (cV L) (jV L)) ↦{fullShare} (sCat).view.write (Elt F) f ((catK L).view.read (Elt F) (catV m d)) Finset.univ : sProp 𝕄)
      = (V d (cV L) (jV L)).loc cc0_scratch0 ↦{fullShare} catB m d L :=
  congrArg (fun g => ((V d (cV L) (jV L)).loc cc0_scratch0 ↦{fullShare} g : sProp 𝕄)) ((View.write_whole_univ _ _ _).trans (funext fun j =>
    congrArg (catV m d : S3x16384.Idx → BitVec 32) (colK_emb L j)))
theorem fetched_t1 (f : Buf (Elt F) ((V d (cV L) (jV L)).loc cc0_scratch1)) :
    ((sT1).view.loc (V d (cV L) (jV L)) ↦{fullShare} (sT1).view.write (Elt F) f ((t1M).view.read (Elt F) (t1V m d)) Finset.univ : sProp 𝕄)
      = (V d (cV L) (jV L)).loc cc0_scratch1 ↦{fullShare} t1V m d :=
  congrArg (fun g => ((V d (cV L) (jV L)).loc cc0_scratch1 ↦{fullShare} g : sProp 𝕄)) (View.write_whole_univ _ _ _)
theorem fetched_t2 (f : Buf (Elt F) ((V d (cV L) (jV L)).loc cc0_scratch2)) :
    ((sT2).view.loc (V d (cV L) (jV L)) ↦{fullShare} (sT2).view.write (Elt F) f ((t2M).view.read (Elt F) (t2V m d)) Finset.univ : sProp 𝕄)
      = (V d (cV L) (jV L)).loc cc0_scratch2 ↦{fullShare} t2V m d :=
  congrArg (fun g => ((V d (cV L) (jV L)).loc cc0_scratch2 ↦{fullShare} g : sProp 𝕄)) (View.write_whole_univ _ _ _)
theorem fetched_t3 (f : Buf (Elt F) ((V d (cV L) (jV L)).loc cc0_scratch3)) :
    ((sT3).view.loc (V d (cV L) (jV L)) ↦{fullShare} (sT3).view.write (Elt F) f ((t3M).view.read (Elt F) (t3V m d)) Finset.univ : sProp 𝕄)
      = (V d (cV L) (jV L)).loc cc0_scratch3 ↦{fullShare} t3V m d :=
  congrArg (fun g => ((V d (cV L) (jV L)).loc cc0_scratch3 ↦{fullShare} g : sProp 𝕄)) (View.write_whole_univ _ _ _)

theorem trips_eq : Scf.trips k0_t1_loop.lb k0_t1_loop.ub k0_t1_loop.st = 32 := by decide

/-- The block copied out: the tile's rows of the embedding array hold the looked-up values. -/
theorem copied_out (f : Buf (Elt F) (xeLoc d)) (g : Vec F S512x20 .f32) (hg : g = xeB m d L) :
    ((xeK L).view.loc (V d (cV L) (jV L)) ↦[(xeK L).view.set]{fullShare} (xeK L).view.writes (Elt F) f [⟨Rect.whole S512x20, (sOut).view.read (Elt F) g⟩] : sProp 𝕄)
      = tdW m d (wL L) := by
  refine Eq.trans ?_ (pts_xeK d L (xeV m d))
  have h := View.write_univ_eq_writes_whole (Val := Elt F) (xeK L).view f [] ((sOut).view.read (Elt F) g)
  rw [show (xeK L).view.writes (Elt F) f [⟨Rect.whole S512x20, (sOut).view.read (Elt F) g⟩]
    = (xeK L).view.write (Elt F) f ((sOut).view.read (Elt F) g) Finset.univ from h.symm]
  refine pointsTo_congr fun i hi => ?_
  obtain ⟨x, -, rfl⟩ := Finset.mem_map.mp hi
  subst hg
  exact (View.write_emb_of_mem _ _ (Finset.mem_univ x)).trans (congrArg (xeV m d : S16384x20.Idx → F .f32) (rowK_emb L x).symm)

/-- The task of the tile at grid point `L`: from its read shares and its rows of the embedding array at their launch contents, to its
    rows at the looked-up values. -/
theorem tile_body (hm : InRange m) (hF : (K (F := F)).Facts) (O : CellTallies nD τ sig (HIx 1)) (W : Waits sig (HIx 1)) (hO : ∀ g, O g none = 0) :
    iprop(levAts (K (F := F)).L (K (F := F)).lev ∗ emp ∗ goW m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_emb_gather L catM (Memref.isWhole_whole _) t1M (Memref.isWhole_whole _) t2M (Memref.isWhole_whole _) t3M (Memref.isWhole_whole _)
            xeM (Memref.isWhole_whole _) sCat (Memref.isWhole_whole _) sT1 (Memref.isWhole_whole _) sT2 (Memref.isWhole_whole _)
            sT3 (Memref.isWhole_whole _) sOut (Memref.isWhole_whole _) cc0_scratch5 cc0_scratch6 cc0_scratch7 cc0_scratch8 cc0_scoped0)
          fun _ => iprop(tdW m d (wL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), sems_tile, bufs_tile]
  iintro ⟨#Hlv, -, ⟨Hcat, Ht1, Ht2, Ht3, Hxe⟩, ⟨⟨%f0, H0⟩, ⟨%f1, H1⟩, ⟨%f2, H2⟩, ⟨%f3, H3⟩, ⟨%f4, H4⟩, Hbufs⟩, ⟨Hs5, Hs6, Hs7, Hs8, Hs9, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  simp only [cc0_emb_gather_eq_skeleton]
  unfold cc0_emb_gather_skel
  ihave Hxe' := (Entails.of_eq (pts_xeK (F := F) d L _).symm) $$ Hxe
  ihave Hcat' := (Entails.of_eq (show (catRd m d (wL L) : sProp 𝕄) = ((catM).view.loc (V d (cV L) (jV L)) ↦{rd (wL L)} catV m d) from rfl)) $$ Hcat
  ihave Ht1' := (Entails.of_eq (show (t1Rd m d (wL L) : sProp 𝕄) = ((t1M).view.loc (V d (cV L) (jV L)) ↦{rd (wL L)} t1V m d) from rfl)) $$ Ht1
  ihave Ht2' := (Entails.of_eq (show (t2Rd m d (wL L) : sProp 𝕄) = ((t2M).view.loc (V d (cV L) (jV L)) ↦{rd (wL L)} t2V m d) from rfl)) $$ Ht2
  ihave Ht3' := (Entails.of_eq (show (t3Rd m d (wL L) : sProp 𝕄) = ((t3M).view.loc (V d (cV L) (jV L)) ↦{rd (wL L)} t3V m d) from rfl)) $$ Ht3
  ihave H0' := (Entails.of_eq (show ((V d (cV L) (jV L)).loc cc0_scratch0 ↦{fullShare} f0 : sProp 𝕄) = ((sCat).view.loc (V d (cV L) (jV L)) ↦{fullShare} f0) from rfl)) $$ H0
  ihave H1' := (Entails.of_eq (show ((V d (cV L) (jV L)).loc cc0_scratch1 ↦{fullShare} f1 : sProp 𝕄) = ((sT1).view.loc (V d (cV L) (jV L)) ↦{fullShare} f1) from rfl)) $$ H1
  ihave H2' := (Entails.of_eq (show ((V d (cV L) (jV L)).loc cc0_scratch2 ↦{fullShare} f2 : sProp 𝕄) = ((sT2).view.loc (V d (cV L) (jV L)) ↦{fullShare} f2) from rfl)) $$ H2
  ihave H3' := (Entails.of_eq (show ((V d (cV L) (jV L)).loc cc0_scratch3 ↦{fullShare} f3 : sProp 𝕄) = ((sT3).view.loc (V d (cV L) (jV L)) ↦{fullShare} f3) from rfl)) $$ H3
  ihave H4' := (Entails.of_eq (show ((V d (cV L) (jV L)).loc cc0_scratch4 ↦{fullShare} f4 : sProp 𝕄) = ((sOut).view.loc (V d (cV L) (jV L)) ↦{fullShare} f4) from rfl)) $$ H4
  sl_exec (disch := exact View.amount_pos _ _ (show 0 < S3x512.numel by decide))
  sl_for (loopInv m d L) $$ [H0' H1' H2' H3' H4']
  case region =>
    intro k _
    unfold loopInv
    iintro ⟨H0, H1, H2, H3, H4⟩
    iapply (trip m d L hm k _ rfl)
    isplitl [H0]; · iexact H0
    isplitl [H1]; · iexact H1
    isplitl [H2]; · iexact H2
    isplitl [H3]; · iexact H3
    isplitl [H4]; · iexact H4
    iintro H; iexact H
  · unfold loopInv
    isplitl [H0']; · iapply (Entails.of_eq (fetched_cat m d L f0)); iexact H0'
    isplitl [H1']; · iapply (Entails.of_eq (fetched_t1 m d L f1)); iexact H1'
    isplitl [H2']; · iapply (Entails.of_eq (fetched_t2 m d L f2)); iexact H2'
    isplitl [H3']; · iapply (Entails.of_eq (fetched_t3 m d L f3)); iexact H3'
    iexists f4
    isplitr; · ipureintro; exact Done.zero
    iexact H4'
  iintro %_ HI
  unfold loopInv
  icases HI with ⟨H0, H1, H2, H3, ⟨%g, %hg, H4⟩⟩
  ihave H4' := (Entails.of_eq (show ((V d (cV L) (jV L)).loc cc0_scratch4 ↦{fullShare} g : sProp 𝕄) = ((sOut).view.loc (V d (cV L) (jV L)) ↦{fullShare} g) from rfl)) $$ H4
  sl_exec (disch := exact View.amount_pos _ _ (show 0 < S512x20.numel by decide))
  sl_step
  isplitl [Hxe']
  · have hg' : g = xeB m d L := Done.all (trips_eq ▸ hg)
    iapply (Entails.of_eq (copied_out m d L (m (xeLoc d)) g hg')); iexact Hxe'
  isplitl [H0 H1 H2 H3 H4' Hbufs]
  · isplitl [H0]; · iexists _; iexact H0
    isplitl [H1]; · iexists _; iexact H1
    isplitl [H2]; · iexists _; iexact H2
    isplitl [H3]; · iexists _; iexact H3
    isplitl [H4']; · iexists _; iexact H4'
    iexact Hbufs
  isplitl [Hs5 Hs6 Hs7 Hs8 Hs9 Hsems]
  · isplitl [Hs5]; · iexact Hs5
    isplitl [Hs6]; · iexact Hs6
    isplitl [Hs7]; · iexact Hs7
    isplitl [Hs8]; · iexact Hs8
    isplitl [Hs9]; · iexact Hs9
    iexact Hsems
  iexists _; isplitr
  swap; · iexact HO
  ipureintro; intro p _
  rcases p.2 with _ | q
  · exact .inr (.inl rfl)
  · exact .inr (.inr (congrArg some (Subsingleton.elim q 0)))

/-! ## The obligation of the launch -/

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_emb_gather (coordsV c s)
          catM (Memref.isWhole_whole _) t1M (Memref.isWhole_whole _) t2M (Memref.isWhole_whole _) t3M (Memref.isWhole_whole _)
          xeM (Memref.isWhole_whole _) sCat (Memref.isWhole_whole _) sT1 (Memref.isWhole_whole _) sT2 (Memref.isWhole_whole _)
          sT3 (Memref.isWhole_whole _) sOut (Memref.isWhole_whole _) cc0_scratch5 cc0_scratch6 cc0_scratch7 cc0_scratch8 cc0_scoped0) ⟨⟩ c s := rfl

theorem tileObl (hm : InRange m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hm hF O W hO

end Cert.Proof.Emb

end
-- ==== Proof.Region.lean ====
/-
  The dense layers on the TensorCore: one block of 4096 rows as a function of the thirteen blocks its windows stage, the proof data of
  the four-point pipeline, the obligation of its body, and its region of the program, entered and left with the windows' arrays held.
-/
module

public import proofs.«01_k».proof.Proof.Setup
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionArraysS
public import Idealize.ShloMosaic.Lib.Pipeline.Value
public import Idealize.ShloMosaic.Lib.Tactic

@[expose] public section

set_option maxRecDepth 16384

noncomputable section

namespace Cert.Proof.Emb

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## One block of the dense layers -/

/-- What the body stores at a grid point, from the thirteen blocks its windows hold there. -/
def mlp (x0 : Vec F S39x4096 .f32) (x1 : Vec F S4096x20 .f32) (x2 : Vec F S20x200 .f32) (x3 : Vec F S39x200 .f32) (x4 : Vec F S200 .f32)
    (x5 : Vec F S200x100 .f32) (x6 : Vec F S100 .f32) (x7 : Vec F S50x100 .f32) (x8 : Vec F S50 .f32) (x9 : Vec F S20x50 .f32)
    (x10 : Vec F S20 .f32) (x11 : Vec F S2x20 .f32) (x12 : Vec F S2 .f32) : Vec F S2x4096 .f32 :=
  k1_pay1 (k1_pay2 x1 x2 x0 x3 x4 x5 x6 x7 x8) x9 x10 x11 x12

/-- Offsets that are all zero, on two axes and on one. -/
theorem off2 : (![0, 0] : Fin 2 → ℕ) = fun _ => 0 := by funext a; fin_cases a <;> rfl
theorem off1 : (![0] : Fin 1 → ℕ) = fun _ => 0 := by funext a; fin_cases a; rfl

/-- The one store of the body covers its buffer. -/
theorem out_cover (p : Vec F S2x4096 .f32) (y : S2x4096.Idx) :
    ∃ pc ∈ ([⟨Rect.unit (s := S2x4096) ![0, 0] S2x4096.size inb_S2x4096_S2x4096_0_0, p⟩] : List (View.Piece (Elt F) S2x4096 .f32)), y ∈ pc.1.set :=
  View.cover_of_tiled [⟨Rect.unit (s := S2x4096) ![0, 0] S2x4096.size inb_S2x4096_S2x4096_0_0, p⟩] S2x4096.size (by rfl) y

set_option maxHeartbeats 1000000 in
/-- The body leaves its thirteen inputs as they are and `mlp` of them in the output's buffer. -/
theorem body_run (c : Dev nD) (E : Set ℕ) (i : grid1.Coords)
    (a0 : Memref sig .tc .vmem S39x4096 .f32) (h0 : a0.IsWhole) (a1 : Memref sig .tc .vmem S4096x20 .f32) (h1 : a1.IsWhole)
    (a2 : Memref sig .tc .vmem S20x200 .f32) (h2 : a2.IsWhole) (a3 : Memref sig .tc .vmem S39x200 .f32) (h3 : a3.IsWhole)
    (a4 : Memref sig .tc .vmem S200 .f32) (h4 : a4.IsWhole) (a5 : Memref sig .tc .vmem S200x100 .f32) (h5 : a5.IsWhole)
    (a6 : Memref sig .tc .vmem S100 .f32) (h6 : a6.IsWhole) (a7 : Memref sig .tc .vmem S50x100 .f32) (h7 : a7.IsWhole)
    (a8 : Memref sig .tc .vmem S50 .f32) (h8 : a8.IsWhole) (a9 : Memref sig .tc .vmem S20x50 .f32) (h9 : a9.IsWhole)
    (a10 : Memref sig .tc .vmem S20 .f32) (h10 : a10.IsWhole) (a11 : Memref sig .tc .vmem S2x20 .f32) (h11 : a11.IsWhole)
    (a12 : Memref sig .tc .vmem S2 .f32) (h12 : a12.IsWhole) (a13 : Memref sig .tc .vmem S2x4096 .f32) (h13 : a13.IsWhole)
    (x0 : Vec F S39x4096 .f32) (x1 : Vec F S4096x20 .f32) (x2 : Vec F S20x200 .f32) (x3 : Vec F S39x200 .f32) (x4 : Vec F S200 .f32)
    (x5 : Vec F S200x100 .f32) (x6 : Vec F S100 .f32) (x7 : Vec F S50x100 .f32) (x8 : Vec F S50 .f32) (x9 : Vec F S20x50 .f32)
    (x10 : Vec F S20 .f32) (x11 : Vec F S2x20 .f32) (x12 : Vec F S2 .f32) (Q : PUnit → sProp 𝕄) :
    iprop((owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7 ∗ owns (c : Thread nD τ) a8 fullShare x8
        ∗ owns (c : Thread nD τ) a9 fullShare x9 ∗ owns (c : Thread nD τ) a10 fullShare x10 ∗ owns (c : Thread nD τ) a11 fullShare x11
        ∗ owns (c : Thread nD τ) a12 fullShare x12 ∗ ∃ d, owns (c : Thread nD τ) a13 fullShare d)
        ∗ ((owns (c : Thread nD τ) a0 fullShare x0 ∗ owns (c : Thread nD τ) a1 fullShare x1 ∗ owns (c : Thread nD τ) a2 fullShare x2
          ∗ owns (c : Thread nD τ) a3 fullShare x3 ∗ owns (c : Thread nD τ) a4 fullShare x4 ∗ owns (c : Thread nD τ) a5 fullShare x5
          ∗ owns (c : Thread nD τ) a6 fullShare x6 ∗ owns (c : Thread nD τ) a7 fullShare x7 ∗ owns (c : Thread nD τ) a8 fullShare x8
          ∗ owns (c : Thread nD τ) a9 fullShare x9 ∗ owns (c : Thread nD τ) a10 fullShare x10 ∗ owns (c : Thread nD τ) a11 fullShare x11
          ∗ owns (c : Thread nD τ) a12 fullShare x12
          ∗ owns (c : Thread nD τ) a13 fullShare (mlp x0 x1 x2 x3 x4 x5 x6 x7 x8 x9 x10 x11 x12)) -∗ Q ⟨⟩))
      ⊢ wp frame (wpE (defs₀ (F := F)) 𝒱₀ (c : Thread nD τ) none) E
          (cc1__mlp_body i a0 h0 a1 h1 a2 h2 a3 h3 a4 h4 a5 h5 a6 h6 a7 h7 a8 h8 a9 h9 a10 h10 a11 h11 a12 h12 a13 h13) Q := by
  simp only [cc1__mlp_body_eq_skeleton]; unfold cc1__mlp_body_skel
  simp only [k1_part1_eq_skeleton]; unfold k1_part1_skel
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, %e10, H10⟩, ⟨%f11, %e11, H11⟩, ⟨%f12, %e12, H12⟩, ⟨%d13, %f13, -, H13⟩⟩, Hk⟩
  sl_exec
  sl_step
  iapply Hk
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  isplitl [H8]; · iexists f8; isplitr; · ipureintro; exact e8
                  iexact H8
  isplitl [H9]; · iexists f9; isplitr; · ipureintro; exact e9
                  iexact H9
  isplitl [H10]; · iexists f10; isplitr; · ipureintro; exact e10
                   iexact H10
  isplitl [H11]; · iexists f11; isplitr; · ipureintro; exact e11
                   iexact H11
  isplitl [H12]; · iexists f12; isplitr; · ipureintro; exact e12
                   iexact H12
  iexists _; isplitr
  swap; · iexact H13
  ipureintro
  refine (View.read_writes_eq_canon _ _ _ (out_cover _)).trans ?_
  rw [View.canon_unit_zero off2]
  subst e0 e1 e2 e3 e4 e5 e6 e7 e8 e9 e10 e11 e12
  dsimp only
  show mlp _ _ _ _ _ _ _ _ _ _ _ _ _ = _
  congr 1 <;> first | exact View.ld_unit_zero off2 _ _ | (refine View.ld_unit_zero ?_ _ _; exact off1)

/-! ## The proof data of the pipeline -/

section

variable (W : Dev nD → Valuation τ sig (Elt F))

/-- The block of window `w`'s array that point `t` stages, the array as the valuation has it at entry. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The block of the result that point `t` computes. -/
def oblk (c : Dev nD) (t : Fin cfg1.N) : Vec F S2x4096 .f32 :=
  mlp (iblk W c 0 t) (iblk W c 1 t) (iblk W c 2 t) (iblk W c 3 t) (iblk W c 4 t) (iblk W c 5 t) (iblk W c 6 t) (iblk W c 7 t)
    (iblk W c 8 t) (iblk W c 9 t) (iblk W c 10 t) (iblk W c 11 t) (iblk W c 12 t)

/-- Every input window is left at its block; the output's buffer is left at the computed block. -/
def dats (_ : Fin 1) (c : Dev nD) : Dat τ (Elt F) (HIx 1) ℕ UU ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => iblk W c 9 t
    | ⟨10, _⟩ => iblk W c 10 t
    | ⟨11, _⟩ => iblk W c 11 t
    | ⟨12, _⟩ => iblk W c 12 t
    | ⟨13, _⟩ => oblk W c t
    | ⟨_ + 14, h⟩ => absurd h (Nat.not_lt.2 (Nat.le_add_left _ _))
  Φ _ := Pipeline.scopedRest spec1 c
  q _ := fullShare
  owed _ := 0

theorem after_out (c : Dev nD) (t : Fin cfg1.N) : (dats W 0 c).after 13 t = oblk W c t := by dsimp only [dats]

/-- An input window that is left at its block holds its block whenever the body runs. -/
theorem before_of {c : Dev nD} (w : Fin cfg1.W) (hin : (cfg1.win w).isOut = false)
    (hclip : ∀ t t' : Fin cfg1.N, (cfg1.win w).clip (cfg1.grid.coords t) = (cfg1.win w).clip (cfg1.grid.coords t'))
    (hkeep : ∀ t, (cfg1.win w).cut (cfg1.grid.coords t) ((dats W 0 c).after w t) = (dats W 0 c).blockOf w t)
    (t : Fin cfg1.N) (d) {X : (cfg1.win w).block.Idx → Elt F (cfg1.win w).elt} (hX : (dats W 0 c).fetched w t d = X) :
    (dats W 0 c).before w t d = X :=
  ((dats W 0 c).before_in_eq_fetched w hin (fun _ => rfl) (fun t t' _ => hclip t t') hkeep t d).trans hX

theorem before_0 (c : Dev nD) (t : Fin cfg1.N) (d) : (dats W 0 c).before 0 t d = iblk W c 0 t :=
  before_of W 0 rfl (fun _ _ => rfl) (fun _ => rfl) t d rfl
theorem before_1 (c : Dev nD) (t : Fin cfg1.N) (d) : (dats W 0 c).before 1 t d = iblk W c 1 t :=
  before_of W 1 rfl (fun _ _ => rfl) (fun _ => rfl) t d rfl
theorem before_2 (c : Dev nD) (t : Fin cfg1.N) (d) : (dats W 0 c).before 2 t d = iblk W c 2 t :=
  before_of W 2 rfl (fun _ _ => rfl) (fun _ => rfl) t d rfl
theorem before_3 (c : Dev nD) (t : Fin cfg1.N) (d) : (dats W 0 c).before 3 t d = iblk W c 3 t :=
  before_of W 3 rfl (fun _ _ => rfl) (fun _ => rfl) t d rfl
theorem before_4 (c : Dev nD) (t : Fin cfg1.N) (d) : (dats W 0 c).before 4 t d = iblk W c 4 t :=
  before_of W 4 rfl (fun _ _ => rfl) (fun _ => rfl) t d rfl
theorem before_5 (c : Dev nD) (t : Fin cfg1.N) (d) : (dats W 0 c).before 5 t d = iblk W c 5 t :=
  before_of W 5 rfl (fun _ _ => rfl) (fun _ => rfl) t d rfl
theorem before_6 (c : Dev nD) (t : Fin cfg1.N) (d) : (dats W 0 c).before 6 t d = iblk W c 6 t :=
  before_of W 6 rfl (fun _ _ => rfl) (fun _ => rfl) t d rfl
theorem before_7 (c : Dev nD) (t : Fin cfg1.N) (d) : (dats W 0 c).before 7 t d = iblk W c 7 t :=
  before_of W 7 rfl (fun _ _ => rfl) (fun _ => rfl) t d rfl
theorem before_8 (c : Dev nD) (t : Fin cfg1.N) (d) : (dats W 0 c).before 8 t d = iblk W c 8 t :=
  before_of W 8 rfl (fun _ _ => rfl) (fun _ => rfl) t d rfl
theorem before_9 (c : Dev nD) (t : Fin cfg1.N) (d) : (dats W 0 c).before 9 t d = iblk W c 9 t :=
  before_of W 9 rfl (fun _ _ => rfl) (fun _ => rfl) t d rfl
theorem before_10 (c : Dev nD) (t : Fin cfg1.N) (d) : (dats W 0 c).before 10 t d = iblk W c 10 t :=
  before_of W 10 rfl (fun _ _ => rfl) (fun _ => rfl) t d rfl
theorem before_11 (c : Dev nD) (t : Fin cfg1.N) (d) : (dats W 0 c).before 11 t d = iblk W c 11 t :=
  before_of W 11 rfl (fun _ _ => rfl) (fun _ => rfl) t d rfl
theorem before_12 (c : Dev nD) (t : Fin cfg1.N) (d) : (dats W 0 c).before 12 t d = iblk W c 12 t :=
  before_of W 12 rfl (fun _ _ => rfl) (fun _ => rfl) t d rfl

/-- The body at a point, run on what the pipeline hands it, hands back the input blocks and the computed block. -/
theorem sound_body (c : Dev nD) (t : Fin cfg1.N) :
    iprop((dats W 0 c).Φ t.castSucc ∗ (dats W 0 c).owesAt none t.castSucc
        ∗ (∃ d, owns (c : Thread nD τ) (st1_0 t) fullShare ((dats W 0 c).before 0 t d))
        ∗ (∃ d, owns (c : Thread nD τ) (st1_1 t) fullShare ((dats W 0 c).before 1 t d))
        ∗ (∃ d, owns (c : Thread nD τ) (st1_2 t) fullShare ((dats W 0 c).before 2 t d))
        ∗ (∃ d, owns (c : Thread nD τ) (st1_3 t) fullShare ((dats W 0 c).before 3 t d))
        ∗ (∃ d, owns (c : Thread nD τ) (st1_4 t) fullShare ((dats W 0 c).before 4 t d))
        ∗ (∃ d, owns (c : Thread nD τ) (st1_5 t) fullShare ((dats W 0 c).before 5 t d))
        ∗ (∃ d, owns (c : Thread nD τ) (st1_6 t) fullShare ((dats W 0 c).before 6 t d))
        ∗ (∃ d, owns (c : Thread nD τ) (st1_7 t) fullShare ((dats W 0 c).before 7 t d))
        ∗ (∃ d, owns (c : Thread nD τ) (st1_8 t) fullShare ((dats W 0 c).before 8 t d))
        ∗ (∃ d, owns (c : Thread nD τ) (st1_9 t) fullShare ((dats W 0 c).before 9 t d))
        ∗ (∃ d, owns (c : Thread nD τ) (st1_10 t) fullShare ((dats W 0 c).before 10 t d))
        ∗ (∃ d, owns (c : Thread nD τ) (st1_11 t) fullShare ((dats W 0 c).before 11 t d))
        ∗ (∃ d, owns (c : Thread nD τ) (st1_12 t) fullShare ((dats W 0 c).before 12 t d))
        ∗ (∃ d, owns (c : Thread nD τ) (st1_13 t) fullShare ((dats W 0 c).before 13 t d)))
      ⊢ wp frame (wpE (defs₀ (F := F)) 𝒱₀ (c : Thread nD τ) none) Set.univ (bodyAt1 t)
          fun _ => iprop((dats W 0 c).Φ t.succ ∗ (dats W 0 c).owesAt none t.succ
            ∗ owns (c : Thread nD τ) (st1_0 t) fullShare (iblk W c 0 t)
            ∗ owns (c : Thread nD τ) (st1_1 t) fullShare (iblk W c 1 t)
            ∗ owns (c : Thread nD τ) (st1_2 t) fullShare (iblk W c 2 t)
            ∗ owns (c : Thread nD τ) (st1_3 t) fullShare (iblk W c 3 t)
            ∗ owns (c : Thread nD τ) (st1_4 t) fullShare (iblk W c 4 t)
            ∗ owns (c : Thread nD τ) (st1_5 t) fullShare (iblk W c 5 t)
            ∗ owns (c : Thread nD τ) (st1_6 t) fullShare (iblk W c 6 t)
            ∗ owns (c : Thread nD τ) (st1_7 t) fullShare (iblk W c 7 t)
            ∗ owns (c : Thread nD τ) (st1_8 t) fullShare (iblk W c 8 t)
            ∗ owns (c : Thread nD τ) (st1_9 t) fullShare (iblk W c 9 t)
            ∗ owns (c : Thread nD τ) (st1_10 t) fullShare (iblk W c 10 t)
            ∗ owns (c : Thread nD τ) (st1_11 t) fullShare (iblk W c 11 t)
            ∗ owns (c : Thread nD τ) (st1_12 t) fullShare (iblk W c 12 t)
            ∗ owns (c : Thread nD τ) (st1_13 t) fullShare (oblk W c t)) := by
  rw [show (dats W 0 c).Φ t.succ = (dats W 0 c).Φ t.castSucc from rfl,
    show (dats W 0 c).owesAt none t.succ = (dats W 0 c).owesAt none t.castSucc from rfl]
  simp only [before_0, before_1, before_2, before_3, before_4, before_5, before_6, before_7, before_8, before_9, before_10, before_11, before_12]
  unfold bodyAt1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩⟩
  iapply (body_run c Set.univ (grid1.coords t) _ _ _ _ _ _ _ _ _ _ _ _ _ _ _ _ _ _ _ _ _ _ _ _ _ _ _ _
    (iblk W c 0 t) (iblk W c 1 t) (iblk W c 2 t) (iblk W c 3 t) (iblk W c 4 t) (iblk W c 5 t) (iblk W c 6 t) (iblk W c 7 t)
    (iblk W c 8 t) (iblk W c 9 t) (iblk W c 10 t) (iblk W c 11 t) (iblk W c 12 t) _)
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists _; iexact H13
  · iintro H
    isplitl [HΦ]; · iexact HΦ
    isplitl [Ho]; · iexact Ho
    iexact H

/-- The body's obligation at every point. -/
theorem body_obligation (c : Dev nD) : BodyObligation (dats W 0 c) (defs₀ (F := F)) 𝒱₀ none Set.univ := fun t => by
  rw [bigSep_W1, bigSep_W1]
  exact sound_body W c t

/-! ## The region -/

/-- The one pipeline prefetches no table. -/
abbrev adm : (p : Fin 1) → (pcfgs (F := F) p).Adm := fun p => (cfgs p).toPCfg_adm

/-- The program's staging cells are pairwise distinct. -/
theorem phinj : Function.Injective (Pipeline.cellOf (nD := nD) (τ := τ) (Pipeline.pin (pcfgs (F := F)) adm)) :=
  (launch1.toP (Val := Elt F)).cellOf_inj adm

/-- No wait of the pipeline can hold up another thread: the core owes nothing while the region runs. -/
theorem cut : Pipeline.LevelCut (nD := nD) (τ := τ) (pcfgs (F := F)) adm none (K (F := F)).L (K (F := F)).lev 0 (fun _ => 0) fun _ => 0 where
  hι _ _ _ := Finset.mem_univ _
  hιb _ _ _ := le_refl _
  hD _ _ _ h := absurd h (lt_irrefl _)

set_option backward.isDefEq.respectTransparency.types false in
/-- The region over any set of held buffers that has the windows' arrays. -/
def reg (S : Finset (DevRef τ sig)) : Pipeline.RegionSeg (pcfgs (F := F)) adm (dats W) none defs₀ 𝒱₀ (K (F := F)).L (K (F := F)).lev 0 :=
  Pipeline.RegionSeg.ofHeldIn (pcfgs (F := F)) adm (dats W) none defs₀ 𝒱₀ (K (F := F)).L (K (F := F)).lev 0 (fun _ => 0) S
    (fun _ => BI.emp) (fun _ => BI.emp) launch1.toP rfl (fun c => (body_obligation W c).loose) (fun _ _ => rfl) (fun _ => rfl)
    (fun c => (dats W 0 c).share_full fun _ => rfl)
    (fun c => show iprop(Pipeline.scopedRest spec1 c ∗ BI.emp) ⊢ Pipeline.scopedRest spec1 c by iintro ⟨H, -⟩; iexact H)
    (fun c => show Pipeline.scopedRest spec1 c ⊢ iprop(Pipeline.scopedRest spec1 c ∗ BI.emp) by
      iintro H; isplitl [H]; · iexact H
      iempintro)
    (fun _ => 0) cut (fun _ => BI.emp) W (fun _ _ => rfl)

set_option backward.isDefEq.respectTransparency.types false in
/-- What the region is entered from, -/
theorem reg_pre {S : Finset (DevRef τ sig)} (hS : Pipeline.arrRefs spec1 ⊆ S) (c : Dev nD) :
    iprop(StableHlo.held (c.tc : Thread nD τ) S (W c) ∗ ((∃ Wd, owes (c : Thread nD τ) (0 : CellTallies nD τ sig (HIx 1)) Wd) ∗ BI.emp ∗ BI.emp))
      ⊢ (reg W S).pre c := by
  unfold reg
  exact Pipeline.RegionSeg.ofHeldIn_pre (pcs := pcfgs (F := F)) (a := adm) (pdats := dats W) (ι := none) (defs₀ := defs₀) (𝒱₀ := 𝒱₀)
    (L := (K (F := F)).L) (lv := (K (F := F)).lev) (p := 0) (D := fun _ => 0) (S := S) hS (X := fun _ => BI.emp) (Y := fun _ => BI.emp) (R := fun _ => BI.emp) (W := W) c

set_option backward.isDefEq.respectTransparency.types false in
/-- and what it is left with. -/
theorem reg_post {S : Finset (DevRef τ sig)} (hS : Pipeline.arrRefs spec1 ⊆ S) (c : Dev nD) :
    (reg W S).post c ⊢ iprop(StableHlo.held (c.tc : Thread nD τ) S (Pipeline.afterRegion (dats W 0 c) (W c))
      ∗ ((∃ Wd, owes (c : Thread nD τ) (0 : CellTallies nD τ sig (HIx 1)) Wd) ∗ BI.emp ∗ BI.emp)) := by
  unfold reg
  exact Pipeline.RegionSeg.ofHeldIn_post (pcs := pcfgs (F := F)) (a := adm) (pdats := dats W) (ι := none) (defs₀ := defs₀) (𝒱₀ := 𝒱₀)
    (L := (K (F := F)).L) (lv := (K (F := F)).lev) (p := 0) (D := fun _ => 0) (S := S) hS (X := fun _ => BI.emp) (Y := fun _ => BI.emp) (R := fun _ => BI.emp) (W := W) c

set_option backward.isDefEq.respectTransparency.types false in
/-- The call of the region, from a set of held buffers that has the windows' arrays: they are left at the pipeline's final contents. -/
theorem wp_region [∀ e, Nonempty (Elt F e)] {S : Finset (DevRef τ sig)} (hS : Pipeline.arrRefs spec1 ⊆ S) (c : Dev nD)
    (k : PUnit → Prog (TpuEff nD τ sig (Elt F) (ΛP (F := F)) .tc) PUnit) (Q : PUnit → sProp 𝕄) :
    iprop(((boundary (c.tc : Thread nD τ) ∗ StableHlo.held (c.tc : Thread nD τ) S (Pipeline.afterRegion (dats W 0 c) (W c))
            ∗ ∃ Wd, owes (c : Thread nD τ) (0 : CellTallies nD τ sig (HIx 1)) Wd)
          -∗ wp frame (wpE (D (F := F)) 𝒱 (c.tc : Thread nD τ) none) Set.univ (k ⟨⟩) Q)
        ∗ boundary (c.tc : Thread nD τ) ∗ StableHlo.held (c.tc : Thread nD τ) S (W c)
        ∗ (∃ Wd, owes (c : Thread nD τ) (0 : CellTallies nD τ sig (HIx 1)) Wd) ∗ levAts (K (F := F)).L (K (F := F)).lev
        ∗ Pipeline.cellsGhost (Pipeline.pin (pcfgs (F := F)) adm) (EP (F := F)) 0 c ∗ Pipeline.toksInit (Pipeline.pin (pcfgs (F := F)) adm) (EP (F := F)) 0 c)
      ⊢ wp frame (wpE (D (F := F)) 𝒱 (c.tc : Thread nD τ) none) Set.univ (.op (.customCall (Pipeline.entry 0) ()) k) Q := by
  iintro ⟨Hk, Hb, Hh, Ho, Hl, Hg, Ht⟩
  iapply (Pipeline.RegionSeg.wp (pcfgs (F := F)) adm (dats W) none phinj (EP (F := F)) defs₀ 𝒱₀ (K (F := F)).L (K (F := F)).lev (reg W S) c none
    (fun _ h => nomatch h) k Q)
  isplitl [Hk]
  · iintro ⟨Hb, Hp⟩
    ihave Hp := (reg_post W hS c) $$ Hp
    icases Hp with ⟨Hh, Ho, -⟩
    iapply Hk
    isplitl [Hb]; · iexact Hb
    isplitl [Hh]; · iexact Hh
    iexact Ho
  isplitl [Hb]; · iexact Hb
  isplitl [Hh Ho]
  · iapply (reg_pre W hS c)
    isplitl [Hh]; · iexact Hh
    isplitl [Ho]; · iexact Ho
    isplitr <;> iempintro
  isplitl [Hl]; · iexact Hl
  isplitl [Hg]; · iexact Hg
  iexact Ht

end

end Cert.Proof.Emb

end
-- ==== Proof.Host.lean ====
/-
  The host operations around the two calls, and the arrays' contents at each stage of the program: at the launch, at the
  SparseCore call, after it, at the region of the dense layers, after it, at the end.
-/
module

public import proofs.«01_k».proof.Proof.Region
public import Idealize.ShloMosaic.Lib.StableHlo.RunRead

@[expose] public section

set_option maxRecDepth 16384

noncomputable section

namespace Cert.Proof.Emb

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo (held after after_unwritten)

variable {F : FTy → Type} [FloatOps F]

local notation "𝕄" => MT nD τ sig (HIx 1) (Elt F) ℕ UU ℕ

/-- A TensorCore buffer of a device, by its reference. -/
abbrev buf (r : Ref sig .tc) : DevRef τ sig := Proc.devRef (τ := τ) .tc r

/-! ## The operations -/

abbrev opCat : HloOp τ sig (Elt F) := StableHlo.unary main_arg1 main_v0 ((transpose S3x16384 [1, 0] · transposes_S16384x3_S3x16384_1_0) : (⟨S16384x3, .i32⟩ : BufTy).Contents (Elt F) → (⟨S3x16384, .i32⟩ : BufTy).Contents (Elt F))
abbrev opT1 : HloOp τ sig (Elt F) := StableHlo.unary main_arg2 main_v1 ((transpose S10x133 [1, 0] · transposes_S133x10_S10x133_1_0) : (⟨S133x10, .f32⟩ : BufTy).Contents (Elt F) → (⟨S10x133, .f32⟩ : BufTy).Contents (Elt F))
abbrev opT2 : HloOp τ sig (Elt F) := StableHlo.unary main_arg3 main_v2 ((transpose S6x13 [1, 0] · transposes_S13x6_S6x13_1_0) : (⟨S13x6, .f32⟩ : BufTy).Contents (Elt F) → (⟨S6x13, .f32⟩ : BufTy).Contents (Elt F))
abbrev opT3 : HloOp τ sig (Elt F) := StableHlo.unary main_arg4 main_v3 ((transpose S4x9 [1, 0] · transposes_S9x4_S4x9_1_0) : (⟨S9x4, .f32⟩ : BufTy).Contents (Elt F) → (⟨S4x9, .f32⟩ : BufTy).Contents (Elt F))
abbrev opW1 : HloOp τ sig (Elt F) := StableHlo.unary main_arg5 main_v5 ((transpose S59x200 [1, 0] · transposes_S200x59_S59x200_1_0) : (⟨S200x59, .f32⟩ : BufTy).Contents (Elt F) → (⟨S59x200, .f32⟩ : BufTy).Contents (Elt F))
abbrev opCont : HloOp τ sig (Elt F) := StableHlo.unary main_arg0 main_v6 ((transpose S39x16384 [1, 0] · transposes_S16384x39_S39x16384_1_0) : (⟨S16384x39, .f32⟩ : BufTy).Contents (Elt F) → (⟨S39x16384, .f32⟩ : BufTy).Contents (Elt F))
abbrev opW1a : HloOp τ sig (Elt F) := StableHlo.unary main_v5 main_v7 ((extractStridedSlice S20x200 ![0, 0] · slices_S59x200_S20x200_0_0) : (⟨S59x200, .f32⟩ : BufTy).Contents (Elt F) → (⟨S20x200, .f32⟩ : BufTy).Contents (Elt F))
abbrev opW1b : HloOp τ sig (Elt F) := StableHlo.unary main_v5 main_v8 ((extractStridedSlice S39x200 ![20, 0] · slices_S59x200_S39x200_20_0) : (⟨S59x200, .f32⟩ : BufTy).Contents (Elt F) → (⟨S39x200, .f32⟩ : BufTy).Contents (Elt F))
abbrev opW2 : HloOp τ sig (Elt F) := StableHlo.unary main_arg7 main_v9 ((transpose S200x100 [1, 0] · transposes_S100x200_S200x100_1_0) : (⟨S100x200, .f32⟩ : BufTy).Contents (Elt F) → (⟨S200x100, .f32⟩ : BufTy).Contents (Elt F))
abbrev opOut : HloOp τ sig (Elt F) := StableHlo.unary main_v10 main_v11 ((transpose S16384x2 [1, 0] · transposes_S2x16384_S16384x2_1_0) : (⟨S2x16384, .f32⟩ : BufTy).Contents (Elt F) → (⟨S16384x2, .f32⟩ : BufTy).Contents (Elt F))

/-- The four before the SparseCore call, and the five between the two calls. -/
abbrev opsA : List (HloOp τ sig (Elt F)) := [opCat, opT1, opT2, opT3]
abbrev opsB : List (HloOp τ sig (Elt F)) := [opW1, opCont, opW1a, opW1b, opW2]

/-! ## The contents, stage by stage -/

variable (m : (ℓ : Loc nD τ sig) → Buf (Elt F) ℓ)

/-- At the launch. -/
def V0 (d : Dev nD) : Valuation τ sig (Elt F) := fun b => m (d, b)
/-- At the SparseCore call. -/
def V1 (d : Dev nD) : Valuation τ sig (Elt F) := after opsA (V0 m d)
/-- After it: the embedding array at the lookup. -/
def V2 (d : Dev nD) : Valuation τ sig (Elt F) := Function.update (V1 m d) (buf main_v4) (xeV m d)
/-- At the region of the dense layers. -/
def V3 (d : Dev nD) : Valuation τ sig (Elt F) := after opsB (V2 m d)
/-- After it. -/
def V4 (d : Dev nD) : Valuation τ sig (Elt F) := Pipeline.afterRegion (dats (V3 m) 0 d) (V3 m d)
/-- At the end. -/
def V5 (d : Dev nD) : Valuation τ sig (Elt F) := opOut.result (V4 m d)

/-- The buffers written by the operations before the call, and between the calls. -/
abbrev WA : List (Ref sig .tc) := [main_v0, main_v1, main_v2, main_v3]
abbrev WB : List (Ref sig .tc) := [main_v5, main_v6, main_v7, main_v8, main_v9]

theorem V1_keeps (d : Dev nD) {r : Ref sig .tc} (h : r ∉ WA) : V1 m d (buf r) = m ((SparseCore.T d).loc r) :=
  after_unwritten WA rfl h _
theorem V2_keeps (d : Dev nD) {r : Ref sig .tc} (h : r ∉ WA) (h4 : r ≠ main_v4) : V2 m d (buf r) = m ((SparseCore.T d).loc r) :=
  (Function.update_of_ne (StableHlo.devRef_ne_of_ne h4) _ _).trans (V1_keeps m d h)
theorem V3_keeps (d : Dev nD) {r : Ref sig .tc} (h : r ∉ WA) (h4 : r ≠ main_v4) (hB : r ∉ WB) : V3 m d (buf r) = m ((SparseCore.T d).loc r) :=
  (after_unwritten WB rfl hB _).trans (V2_keeps m d h h4)
theorem V4_keeps (d : Dev nD) {r : Ref sig .tc} (h : r ∉ WA) (h4 : r ≠ main_v4) (hB : r ∉ WB) (h10 : r ≠ main_v10) :
    V4 m d (buf r) = m ((SparseCore.T d).loc r) := by
  refine Eq.trans ?_ (V3_keeps m d h h4 hB)
  refine Pipeline.afterRegion_keeps (dats (V3 m) 0 d) (V3 m d) winFacts1.arr_inj (fun _ => rfl) r fun w hw => ?_
  subst hw
  revert h10
  fin_cases w <;> first | exact fun _ => rfl | exact fun h => absurd rfl h
/-- A buffer nothing writes, an argument for one, stays as launched. -/
theorem V5_keeps (d : Dev nD) {r : Ref sig .tc} (h : r ∉ WA) (h4 : r ≠ main_v4) (hB : r ∉ WB) (h10 : r ≠ main_v10) (h11 : r ≠ main_v11) :
    V5 m d (buf r) = m ((SparseCore.T d).loc r) :=
  (StableHlo.unary_result_ne _ _ _ _ _ _ h11).trans (V4_keeps m d h h4 hB h10)

/-! ## The arrays of the two calls -/

theorem V1_v0 (d : Dev nD) : V1 m d (buf main_v0) = catV m d := by
  unfold V1; simp only [after]
  rw [StableHlo.unary_result_ne _ _ _ _ _ _ (by decide), StableHlo.unary_result_ne _ _ _ _ _ _ (by decide), StableHlo.unary_result_ne _ _ _ _ _ _ (by decide), StableHlo.unary_result]; rfl
theorem V1_v1 (d : Dev nD) : V1 m d (buf main_v1) = t1V m d := by
  unfold V1; simp only [after]
  rw [StableHlo.unary_result_ne _ _ _ _ _ _ (by decide), StableHlo.unary_result_ne _ _ _ _ _ _ (by decide), StableHlo.unary_result, StableHlo.unary_result_ne _ _ _ _ _ _ (by decide)]; rfl
theorem V1_v2 (d : Dev nD) : V1 m d (buf main_v2) = t2V m d := by
  unfold V1; simp only [after]
  rw [StableHlo.unary_result_ne _ _ _ _ _ _ (by decide), StableHlo.unary_result, StableHlo.unary_result_ne _ _ _ _ _ _ (by decide), StableHlo.unary_result_ne _ _ _ _ _ _ (by decide)]; rfl
theorem V1_v3 (d : Dev nD) : V1 m d (buf main_v3) = t3V m d := by
  unfold V1; simp only [after]
  rw [StableHlo.unary_result, StableHlo.unary_result_ne _ _ _ _ _ _ (by decide), StableHlo.unary_result_ne _ _ _ _ _ _ (by decide), StableHlo.unary_result_ne _ _ _ _ _ _ (by decide)]; rfl
theorem V3_v4 (d : Dev nD) : V3 m d (buf main_v4) = xeV m d :=
  (after_unwritten WB rfl (by decide) _).trans (Function.update_self _ _ _)

/-! ## The buffers held -/

/-- What the SparseCore call takes for good, and all it takes. -/
abbrev S4 : Finset (DevRef τ sig) := {buf main_v0, buf main_v1, buf main_v2, buf main_v3}
abbrev S5 : Finset (DevRef τ sig) := {buf main_v0, buf main_v1, buf main_v2, buf main_v3, buf main_v4}
/-- What is held after it. -/
abbrev SR : Finset (DevRef τ sig) := Pipeline.ucRefs τ sig \ S4

theorem held_S5 (d : Dev nD) (W : Valuation τ sig (Elt F)) :
    (held (SparseCore.T d) S5 W : sProp 𝕄)
      = iprop((catLoc d ↦{fullShare} W (buf main_v0)) ∗ (t1Loc d ↦{fullShare} W (buf main_v1)) ∗ (t2Loc d ↦{fullShare} W (buf main_v2))
          ∗ (t3Loc d ↦{fullShare} W (buf main_v3)) ∗ xeLoc d ↦{fullShare} W (buf main_v4)) := by
  unfold held S5
  rw [SparseCore.bigSep_insert' (by decide), SparseCore.bigSep_insert' (by decide), SparseCore.bigSep_insert' (by decide),
    SparseCore.bigSep_insert' (by decide), bigSep_singleton]

theorem S5_sub : S5 ⊆ Pipeline.ucRefs τ sig := by decide
theorem arr_sub : Pipeline.arrRefs spec1 ⊆ SR := by decide
theorem v4_mem : buf main_v4 ∈ SR := by decide
theorem SR_rest : SR \ {buf main_v4} = Pipeline.ucRefs τ sig \ S5 := by decide

/-- Before the call: the five arrays at their values, and the rest. -/
theorem held_V1 (d : Dev nD) :
    (held (SparseCore.T d) (Pipeline.ucRefs τ sig) (V1 m d) : sProp 𝕄)
      = iprop(((catLoc d ↦{fullShare} catV m d) ∗ (t1Loc d ↦{fullShare} t1V m d) ∗ (t2Loc d ↦{fullShare} t2V m d)
          ∗ (t3Loc d ↦{fullShare} t3V m d) ∗ xeLoc d ↦{fullShare} m (xeLoc d)) ∗ held (SparseCore.T d) (Pipeline.ucRefs τ sig \ S5) (V1 m d)) := by
  refine (StableHlo.held_sub_split (SparseCore.T d) S5_sub (V1 m d)).trans ?_
  refine congrArg (fun X : sProp 𝕄 => iprop(X ∗ held (SparseCore.T d) (Pipeline.ucRefs τ sig \ S5) (V1 m d))) ((held_S5 d (V1 m d)).trans ?_)
  rw [V1_v0 m d, V1_v1 m d, V1_v2 m d, V1_v3 m d, V1_keeps m d (r := main_v4) (by decide)]

/-- After it: the embedding array joins the rest. -/
theorem held_V2 (d : Dev nD) :
    (held (SparseCore.T d) SR (V2 m d) : sProp 𝕄)
      = iprop((xeLoc d ↦{fullShare} xeV m d) ∗ held (SparseCore.T d) (Pipeline.ucRefs τ sig \ S5) (V1 m d)) := by
  have h1 : (held (SparseCore.T d) {buf main_v4} (V2 m d) : sProp 𝕄) = xeLoc d ↦{fullShare} xeV m d := by
    unfold held; rw [bigSep_singleton]; unfold V2; rw [Function.update_self]
  have h2 : (held (SparseCore.T d) (SR \ {buf main_v4}) (V2 m d) : sProp 𝕄) = held (SparseCore.T d) (Pipeline.ucRefs τ sig \ S5) (V1 m d) := by
    rw [SR_rest]
    refine StableHlo.held_congr _ fun b hb => Function.update_of_ne (fun h => ?_) _ _
    subst h
    exact (Finset.mem_sdiff.mp hb).2 (by decide)
  rw [← h1, ← h2]
  exact StableHlo.held_sub_split (SparseCore.T d) (Finset.singleton_subset_iff.mpr v4_mem) (V2 m d)

end Cert.Proof.Emb

end
-- ==== Proof.Main.lean ====
/-
  The whole program: the launch's resources, what the SparseCore call is handed and hands back, @main on the TensorCore, and the run:
  the arguments unchanged, the result array at its value.
-/
module

public import proofs.«01_k».proof.Proof.TileBody
public import proofs.«01_k».proof.Proof.Host

@[expose] public section

set_option maxRecDepth 16384

noncomputable section

namespace Cert.Proof.Emb

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's resources -/

/-- The handshakes' rounds, the pipeline's cells, no transfer counted yet. -/
def u₀ : UU :=
  (initOf (K (F := F)).hsCells (K (F := F)).hsToks,
    (initOf (Pipeline.cells (Pipeline.pin (pcfgs (F := F)) adm) phinj) (Pipeline.launchToks (Pipeline.pin (pcfgs (F := F)) adm) phinj), (1 : Counters)))

/-- What the TensorCore of `d` keeps for its region. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem x_emp : (bigSep Finset.univ fun thr : Thread nD τ => bigSep Finset.univ fun q : Fin 1 => (P (F := F) m).x q thr) = iprop(emp) := by
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  exact bigSep_emp_const _

/-- The part of the pipeline's cells, out of the two that are not the handshakes'. -/
theorem EP_own (a : UP) : (BI.own (embR (A := UH) (B := UP × Counters) (nD := nD) (τ := τ) (sig := sig) (Ix := HIx 1) (Val := Elt F) (Name := ℕ) (Lvl := ℕ) (a, (1 : Counters))) : sProp 𝕄)
    ⊢ BI.own (EP (F := F) a) :=
  (own_pair_emb (embR (A := UH) (B := UP × Counters) (nD := nD) (τ := τ) (sig := sig) (Ix := HIx 1) (Val := Elt F) (Name := ℕ) (Lvl := ℕ)) a (1 : Counters)).trans
    sep_elim_left

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  rw [x_emp]
  unfold u₀
  iintro Hu
  ihave H := (ownU_pair (initOf (K (F := F)).hsCells (K (F := F)).hsToks)
    (initOf (Pipeline.cells (Pipeline.pin (pcfgs (F := F)) adm) phinj) (Pipeline.launchToks (Pipeline.pin (pcfgs (F := F)) adm) phinj), (1 : Counters))) $$ Hu
  icases H with ⟨HH, HP⟩
  ihave HP := (EP_own (F := F) _) $$ HP
  imod (Pipeline.fund_ghost (Pipeline.pin (pcfgs (F := F)) adm) (EP (F := F)) phinj) $$ HP with ⟨Hg, Ht⟩
  imodintro
  isplitl [HH]; · iexact HH
  isplitr []
  · rw [bigSep_sep']
    isplitl [Hg]
    · iapply (Entails.of_eq (bigSep_congr (s := Finset.univ) fun (d : Dev nD) _ =>
        bigSep_univ_of_subsingleton (Φ := fun p : Fin 1 => (Pipeline.cellsGhost (Pipeline.pin (pcfgs (F := F)) adm) (EP (F := F)) p d : sProp 𝕄)) (0 : Fin 1)))
      iexact Hg
    · iapply (Entails.of_eq (bigSep_congr (s := Finset.univ) fun (d : Dev nD) _ =>
        bigSep_univ_of_subsingleton (Φ := fun p : Fin 1 => (Pipeline.toksInit (Pipeline.pin (pcfgs (F := F)) adm) (EP (F := F)) p d : sProp 𝕄)) (0 : Fin 1)))
      iexact Ht
  iempintro

/-! ## What the SparseCore call takes and brings back -/

omit [FloatOps F] in
theorem rowSet_eq (w : Fin 32) : rowSet w = (row w).set := by
  show ((View.whole (main_v4_scv : Ref sig .scVector)).slice (row w)).set = _
  rw [View.set_slice]; exact Finset.map_refl
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
theorem rows_cover : (Finset.univ : Finset (Fin 32)).biUnion rowSet = Finset.univ :=
  (Finset.biUnion_congr rfl fun i _ => rowSet_eq i).trans (Rect.biUnion_part hdiv)

/-- The embedding array is its 32 blocks of rows. -/
theorem xe_rows (d : Dev nD) (f : Buf (Elt F) (xeLoc d)) :
    (xeLoc d ↦{fullShare} f : sProp 𝕄) = bigSep Finset.univ fun w : Fin 32 => xeRow d w f := by
  rw [← pointsTo_biUnion Finset.univ (ℓ := xeLoc d) rowSet rows_disjoint, rows_cover]

/-- The 32 tiles, by core and subcore. -/
def tiles : Fin 2 × Fin 16 ≃ Fin 32 := Equiv.ofBijective (fun p => wid p.1 p.2) (by decide)

theorem bigSep_tiles (Φ : Fin 32 → sProp 𝕄) :
    bigSep Finset.univ Φ = bigSep Finset.univ fun c : Fin 2 => bigSep Finset.univ fun i : Fin 16 => Φ (wid c i) := by
  rw [bigSep_univ_equiv tiles Φ, bigSep_univ_prod]; rfl

theorem st0 (d : Dev nD) :
    iprop((catLoc d ↦{fullShare} catV m d) ∗ (t1Loc d ↦{fullShare} t1V m d) ∗ (t2Loc d ↦{fullShare} t2V m d)
          ∗ (t3Loc d ↦{fullShare} t3V m d) ∗ xeLoc d ↦{fullShare} m (xeLoc d))
      ⊢ (bigSep Finset.univ fun c : Fin ((K (F := F)).nCore 0) => (P m).st 0 d c : sProp 𝕄) := by
  show _ ⊢ bigSep Finset.univ fun c : Fin 2 => bigSep Finset.univ fun i : Fin 16 => goW m d (wid c i)
  rw [← bigSep_tiles (goW m d), bigSep_sep', bigSep_sep', bigSep_sep', bigSep_sep', xe_rows,
    ShareLeaves.pointsTo_leaves (ℓ := catLoc d) Finset.univ (catV m d) 5 fullShare, ShareLeaves.pointsTo_leaves (ℓ := t1Loc d) Finset.univ (t1V m d) 5 fullShare,
    ShareLeaves.pointsTo_leaves (ℓ := t2Loc d) Finset.univ (t2V m d) 5 fullShare, ShareLeaves.pointsTo_leaves (ℓ := t3Loc d) Finset.univ (t3V m d) 5 fullShare]
  exact Entails.refl _

theorem dn0 (d : Dev nD) :
    (bigSep Finset.univ fun c : Fin ((K (F := F)).nCore 0) => (P m).dn 0 d c : sProp 𝕄) = (xeLoc d ↦{fullShare} xeV m d) := by
  rw [xe_rows, bigSep_tiles]; rfl

/-! ## The region of the dense layers, in the program -/

/-- After its one SparseCore call the TensorCore owes nothing, and its recorded waits stay in bounds whatever they are. -/
theorem tcSt_owes (d : Dev nD) :
    ((K (F := F)).tcSt EH d 1 : sProp 𝕄)
      ⊢ iprop((∃ Wd, owes (SparseCore.T d) (0 : CellTallies nD τ sig (HIx 1)) Wd)
          ∗ ((∃ Wd, owes (SparseCore.T d) (0 : CellTallies nD τ sig (HIx 1)) Wd) -∗ (K (F := F)).tcSt EH d 1)) := by
  unfold SparseCore.Cfg.tcSt
  rw [(K (F := F)).Otc_end d (le_refl 1)]
  iintro ⟨⟨%Wd, -, Ho⟩, Hrest⟩
  isplitl [Ho]; · iexists Wd; iexact Ho
  iintro ⟨%Wd', Ho⟩
  isplitl [Ho]
  · iexists Wd'
    isplitr [Ho]
    · ipureintro
      intro p _
      rcases p.2 with _ | q
      · exact Nat.zero_le _
      · refine ((K (F := F)).lev_some_le _ q).trans ?_
        have := Subsingleton.elim q 0; subst this; decide
    iexact Ho
  iexact Hrest

theorem wp_dense [∀ e, Nonempty (Elt F e)] (d : Dev nD) (Φ : PUnit → sProp 𝕄) :
    iprop(((boundary (SparseCore.T d) ∗ held (SparseCore.T d) SR (V4 m d) ∗ ∃ Wd, owes (SparseCore.T d) (0 : CellTallies nD τ sig (HIx 1)) Wd) -∗ Φ ⟨⟩)
        ∗ boundary (SparseCore.T d) ∗ held (SparseCore.T d) SR (V3 m d) ∗ (∃ Wd, owes (SparseCore.T d) (0 : CellTallies nD τ sig (HIx 1)) Wd)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Φ := by
  have h0 := (K (F := F)).wp_liftProg (D (F := F)) 𝒱 (SparseCore.T d) Set.univ none (α := PUnit) (.op (.customCall (Pipeline.entry 0) ()) .ret) Φ
  have e : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) := rfl
  rw [e]
  refine BIBase.Entails.trans ?_ h0
  have h := wp_region (V3 m) arr_sub d .ret Φ
  refine BIBase.Entails.trans ?_ h
  iintro ⟨Hk, Hb, Hh, Ho, Hl, Hg, Ht⟩
  isplitl [Hk]
  · iintro H
    rw [wp_ret]; imodintro
    iapply Hk; iexact H
  isplitl [Hb]; · iexact Hb
  isplitl [Hh]; · iexact Hh
  isplitl [Ho]; · iexact Ho
  isplitl [Hl]; · iexact Hl
  isplitl [Hg]; · iexact Hg
  iexact Ht

/-! ## @main on the TensorCore -/

/-- What @main leaves: every buffer still held, at its final contents. -/
abbrev FIN (d : Dev nD) : sProp 𝕄 := held (SparseCore.T d) SR (V5 m d)

/-- The contents as the operations leave them, one by one, are those of the stages. -/
theorem held_V1' (d : Dev nD) :
    (held (SparseCore.T d) (Pipeline.ucRefs τ sig) (opT3.result (opT2.result (opT1.result (opCat.result (V0 m d))))) : sProp 𝕄)
      = held (SparseCore.T d) (Pipeline.ucRefs τ sig) (V1 m d) := rfl
theorem held_V3' (d : Dev nD) :
    (held (SparseCore.T d) SR (opW2.result (opW1b.result (opW1a.result (opCont.result (opW1.result (V2 m d)))))) : sProp 𝕄)
      = held (SparseCore.T d) SR (V3 m d) := rfl
theorem held_V5' (d : Dev nD) : (held (SparseCore.T d) SR (opOut.result (V4 m d)) : sProp 𝕄) = held (SparseCore.T d) SR (V5 m d) := rfl

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d) from
    Pipeline.unscopedBufs_held d (V0 m d)]
  simp only [main, wp_bind, wp_pure]
  iintro ⟨#Hctx, Hst, ⟨Hb, Hh, Hts, -⟩, HG⟩
  iapply (wp_hlo_within 𝒱 (SparseCore.T d) none Set.univ (op := opCat) (S := Pipeline.ucRefs τ sig)
    (show ({buf main_arg1, buf main_v0} : Finset (DevRef τ sig)) ⊆ _ by decide) (V := V0 m d)) $$ [Hb Hh]
  · isplitl [Hb] <;> iassumption
  iintro ⟨Hb, Hh⟩
  rw [wp_ret]; imodintro
  iapply (wp_hlo_within 𝒱 (SparseCore.T d) none Set.univ (op := opT1) (S := Pipeline.ucRefs τ sig)
    (show ({buf main_arg2, buf main_v1} : Finset (DevRef τ sig)) ⊆ _ by decide)) $$ [Hb Hh]
  · isplitl [Hb] <;> iassumption
  iintro ⟨Hb, Hh⟩
  rw [wp_ret]; imodintro
  iapply (wp_hlo_within 𝒱 (SparseCore.T d) none Set.univ (op := opT2) (S := Pipeline.ucRefs τ sig)
    (show ({buf main_arg3, buf main_v2} : Finset (DevRef τ sig)) ⊆ _ by decide)) $$ [Hb Hh]
  · isplitl [Hb] <;> iassumption
  iintro ⟨Hb, Hh⟩
  rw [wp_ret]; imodintro
  iapply (wp_hlo_within 𝒱 (SparseCore.T d) none Set.univ (op := opT3) (S := Pipeline.ucRefs τ sig)
    (show ({buf main_arg4, buf main_v3} : Finset (DevRef τ sig)) ⊆ _ by decide)) $$ [Hb Hh]
  · isplitl [Hb] <;> iassumption
  iintro ⟨Hb, Hh⟩
  rw [wp_ret]; imodintro
  -- the SparseCore call
  ihave Hh := (Entails.of_eq ((held_V1' m d).trans (held_V1 m d))) $$ Hh
  icases Hh with ⟨H5, Hrest⟩
  iapply ((K (F := F)).wp_run (D (F := F)) 𝒱 (EH := EH) (P := P m) κ d 0) $$ [Hst H5 Hrest Hb Hts HG]
  isplitr; · iexact Hctx
  isplitl [Hst]; · iexact Hst
  isplitl [H5]; · iapply (st0 m d); iexact H5
  iintro ⟨Hst, Hdn⟩
  ihave Hxe := (Entails.of_eq (dn0 m d)) $$ Hdn
  ihave Hh := (Entails.of_eq (held_V2 m d).symm) $$ [Hxe Hrest]
  · isplitl [Hxe] <;> iassumption
  -- the operations between the calls
  iapply (wp_hlo_within 𝒱 (SparseCore.T d) none Set.univ (op := opW1) (S := SR)
    (show ({buf main_arg5, buf main_v5} : Finset (DevRef τ sig)) ⊆ _ by decide) (V := V2 m d)) $$ [Hb Hh]
  · isplitl [Hb] <;> iassumption
  iintro ⟨Hb, Hh⟩
  rw [wp_ret]; imodintro
  iapply (wp_hlo_within 𝒱 (SparseCore.T d) none Set.univ (op := opCont) (S := SR)
    (show ({buf main_arg0, buf main_v6} : Finset (DevRef τ sig)) ⊆ _ by decide)) $$ [Hb Hh]
  · isplitl [Hb] <;> iassumption
  iintro ⟨Hb, Hh⟩
  rw [wp_ret]; imodintro
  iapply (wp_hlo_within 𝒱 (SparseCore.T d) none Set.univ (op := opW1a) (S := SR)
    (show ({buf main_v5, buf main_v7} : Finset (DevRef τ sig)) ⊆ _ by decide)) $$ [Hb Hh]
  · isplitl [Hb] <;> iassumption
  iintro ⟨Hb, Hh⟩
  rw [wp_ret]; imodintro
  iapply (wp_hlo_within 𝒱 (SparseCore.T d) none Set.univ (op := opW1b) (S := SR)
    (show ({buf main_v5, buf main_v8} : Finset (DevRef τ sig)) ⊆ _ by decide)) $$ [Hb Hh]
  · isplitl [Hb] <;> iassumption
  iintro ⟨Hb, Hh⟩
  rw [wp_ret]; imodintro
  iapply (wp_hlo_within 𝒱 (SparseCore.T d) none Set.univ (op := opW2) (S := SR)
    (show ({buf main_arg7, buf main_v9} : Finset (DevRef τ sig)) ⊆ _ by decide)) $$ [Hb Hh]
  · isplitl [Hb] <;> iassumption
  iintro ⟨Hb, Hh⟩
  rw [wp_ret]; imodintro
  -- the dense layers
  ihave Hh := (Entails.of_eq (held_V3' m d)) $$ Hh
  ihave Hst := (Entails.of_eq (show (K (F := F)).tcSt EH d ((0 : Fin 1).val + 1) = (K (F := F)).tcSt EH d 1 from rfl)) $$ Hst
  ihave Hst := (tcSt_owes d) $$ Hst
  icases Hst with ⟨Ho, Hst⟩
  iapply (wp_dense m d)
  isplitl [Hst Hts]
  · iintro ⟨Hb, Hh, Ho⟩
    -- the last transpose
    iapply (wp_hlo_within 𝒱 (SparseCore.T d) none Set.univ (op := opOut) (S := SR)
      (show ({buf main_v10, buf main_v11} : Finset (DevRef τ sig)) ⊆ _ by decide) (V := V4 m d)) $$ [Hb Hh]
    · isplitl [Hb] <;> iassumption
    iintro ⟨Hb, Hh⟩
    ihave Hh := (Entails.of_eq (held_V5' m d)) $$ Hh
    rw [wp_ret]; imodintro; imodintro
    isplitl [Hst Ho]; · iapply Hst; iexact Ho
    isplitl [Hh]; · iexact Hh
    isplitl [Hb] <;> iassumption
  isplitl [Hb]; · iexact Hb
  isplitl [Hh]; · iexact Hh
  isplitl [Ho]; · iexact Ho
  isplitr [HG]; · iapply (SparseCore.Cfg.ctx_levAts κ); iexact Hctx
  iexact HG

/-! ## The run -/

/-- Every buffer held to the end is found at its final contents. -/
def fq (d : Dev nD) (s' : Phys nD τ sig (Elt F)) : Prop := ∀ b ∈ (SR : Finset (DevRef τ sig)), s'.mem.mem (d, b) = V5 m d b

theorem held_mem (d : Dev nD) {b : DevRef τ sig} (hb : b ∈ (SR : Finset (DevRef τ sig))) :
    FIN m d ⊢ ((((d, b) : Loc nD τ sig) ↦{fullShare} V5 m d b) : sProp 𝕄) := bigSep_elim hb

theorem hfin (d : Dev nD) (s' : Phys nD τ sig (Elt F)) : iprop(FIN m d ∗ SI s') ⊢ (⌜fq m d s'⌝ : sProp 𝕄) := by
  have one : ∀ b : DevRef τ sig, b ∈ (SR : Finset (DevRef τ sig)) → (iprop(FIN m d ∗ SI s') ⊢ (⌜s'.mem.mem (d, b) = V5 m d b⌝ : sProp 𝕄)) := fun b hb => by
    iintro ⟨Hh, HSI⟩
    ihave Hx := (held_mem m d hb) $$ Hh
    ihave H := (SI_pointsTo_agree (st := s') (ℓ := (d, b)) (I := Finset.univ) (q := fullShare) (f := V5 m d b)) $$ [HSI Hx]
    · isplitl [HSI] <;> iassumption
    icases H with %h
    ipureintro; exact funext fun i => h i (Finset.mem_univ i)
  exact ((forall_intro fun b => one b.1 b.2).trans pure_forall.2).trans (Laws.pure_mono fun all b hb => all (⟨b, hb⟩ : {b // b ∈ (SR : Finset (DevRef τ sig))}))

/-- At the end every buffer held is at its final contents and every semaphore at zero. -/
def QC : PUnit × MemSt nD τ sig (Elt F) → Prop :=
  fun r => (∀ (d : Dev nD), ∀ b ∈ (SR : Finset (DevRef τ sig)), r.2.mem (d, b) = V5 m d b) ∧ r.2.sem = fun _ => 0

theorem run_main [∀ e, Nonempty (Elt F e)] (hm : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Emb

end
-- ==== Proof.Frames.lean ====
/-
  What the precondition says of the categories, and the four frames: the kernel at either reading, the reference with and without the
  precondition.
-/
module

public import proofs.«01_k».proof.Proof.Main
public import proofs.«01_k».proof.Defs
public import proofs.«01_k».proof.Proof.Gen.Kernel
public import proofs.«01_k».proof.Proof.Gen.Pre_cat_in_range
public import proofs.«01_k».proof.Proof.Gen.ReferenceIdeal.Run
public import Idealize.ShloMosaic.Lib.ReduceAll
public import Idealize.ShloMosaic.Lib.StableHlo.Predicate
public import Idealize.ShloMosaic.Lib.Quiescent

@[expose] public section

set_option maxRecDepth 16384

noncomputable section

namespace Cert.Proof.Emb

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The precondition -/

/-- A word that reads, signed, at least 0 and below 9 is below 9 unsigned. -/
theorem below_nine {x : BitVec 32} (h : IntOp.andi (IntOp.cmpi .sge x 0#32) (IntOp.cmpi .slt x 9#32) = 1#1) : x.toNat < 9 := by
  obtain ⟨h0, h9⟩ := IntOp.andi_eq_one.1 h
  have l0 : (0#32).toInt ≤ x.toInt := by simpa [IntOp.cmpi, BitVec.sle, StableHlo.Predicate.ofBool_eq_one_iff] using h0
  have l9 : x.toInt < (9#32).toInt := by simpa [IntOp.cmpi, BitVec.slt, StableHlo.Predicate.ofBool_eq_one_iff] using h9
  have e0 : (0#32).toInt = 0 := rfl
  have e9 : (9#32).toInt = 9 := rfl
  have hx := x.isLt
  rw [e0] at l0
  rw [e9] at l9
  rw [BitVec.toInt_eq_toNat_cond] at l0 l9
  split at l0 <;> omega

instance : Subsingleton Cert.Pre_cat_in_range.S_.Idx := ⟨fun a b => funext fun i => i.elim0⟩

/-- The precondition, read: every category word is below 9. -/
theorem cat_below (x0 : FVec F S16384x39 .f32) (x1 : IVec S16384x3 32) (x2 : FVec F S133x10 .f32) (x3 : FVec F S13x6 .f32) (x4 : FVec F S9x4 .f32)
    (x5 : FVec F S200x59 .f32) (x6 : FVec F S200 .f32) (x7 : FVec F S100x200 .f32) (x8 : FVec F S100 .f32) (x9 : FVec F S50x100 .f32) (x10 : FVec F S50 .f32)
    (x11 : FVec F S20x50 .f32) (x12 : FVec F S20 .f32) (x13 : FVec F S2x20 .f32) (x14 : FVec F S2 .f32)
    (h : Cert.Pre_cat_in_range.fn (F := F) x0 x1 x2 x3 x4 x5 x6 x7 x8 x9 x10 x11 x12 x13 x14 = fun _ => 1#1) (j : S16384x3.Idx) : (x1 j).toNat < 9 :=
  below_nine (Host.reduce_andi_all (t := Cert.Pre_cat_in_range.S_) _ _ _ _ _ (congrFun h (Shape.Idx.first Cert.Pre_cat_in_range.Facts.h_S_)) j)

/-- So the transposed categories the SparseCore reads are in range. -/
theorem inRange_of (h : ∀ (d : Dev nD) (j : S16384x3.Idx), ((m ((SparseCore.T d).loc main_arg1) : S16384x3.Idx → BitVec 32) j).toNat < 9) : InRange m :=
  fun d j => h d _

/-! ## The arguments end as launched -/

/-- At the end a buffer the program never writes reads as launched. -/
theorem kept {r : PUnit × MemSt nD τ sig (Elt F)} (hq : QC m r) (d : Dev nD) {x : Ref sig .tc} (hS : buf x ∈ (SR : Finset (DevRef τ sig)))
    (h : x ∉ WA) (h4 : x ≠ main_v4) (hB : x ∉ WB) (h10 : x ≠ main_v10) (h11 : x ≠ main_v11) :
    r.2.mem ((SparseCore.T d).loc x) = m ((SparseCore.T d).loc x) :=
  (hq.1 d _ hS).trans (V5_keeps m d h h4 hB h10 h11)

/-- All fifteen arguments, as launched. -/
theorem args_kept {r : PUnit × MemSt nD τ sig (Elt F)} (hq : QC m r) (d : Dev nD) :
    r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)
    ∧ r.2.mem ((SparseCore.T d).loc main_arg3) = m ((SparseCore.T d).loc main_arg3)
    ∧ r.2.mem ((SparseCore.T d).loc main_arg4) = m ((SparseCore.T d).loc main_arg4)
    ∧ r.2.mem ((SparseCore.T d).loc main_arg5) = m ((SparseCore.T d).loc main_arg5)
    ∧ r.2.mem ((SparseCore.T d).loc main_arg6) = m ((SparseCore.T d).loc main_arg6)
    ∧ r.2.mem ((SparseCore.T d).loc main_arg7) = m ((SparseCore.T d).loc main_arg7)
    ∧ r.2.mem ((SparseCore.T d).loc main_arg8) = m ((SparseCore.T d).loc main_arg8)
    ∧ r.2.mem ((SparseCore.T d).loc main_arg9) = m ((SparseCore.T d).loc main_arg9)
    ∧ r.2.mem ((SparseCore.T d).loc main_arg10) = m ((SparseCore.T d).loc main_arg10)
    ∧ r.2.mem ((SparseCore.T d).loc main_arg11) = m ((SparseCore.T d).loc main_arg11)
    ∧ r.2.mem ((SparseCore.T d).loc main_arg12) = m ((SparseCore.T d).loc main_arg12)
    ∧ r.2.mem ((SparseCore.T d).loc main_arg13) = m ((SparseCore.T d).loc main_arg13)
    ∧ r.2.mem ((SparseCore.T d).loc main_arg14) = m ((SparseCore.T d).loc main_arg14) := by
  refine ⟨?_, ?_, ?_, ?_, ?_, ?_, ?_, ?_, ?_, ?_, ?_, ?_, ?_, ?_, ?_⟩ <;>
    exact kept m hq d (by decide) (by decide) (by decide) (by decide) (by decide) (by decide)

/-! ## The frames -/

/-- The run, of the arguments and the semaphores alone. -/
theorem run_args [∀ e, Nonempty (Elt F e)]
    (h : ∀ (d : Dev nD) (j : S16384x3.Idx), ((m ((SparseCore.T d).loc main_arg1) : S16384x3.Idx → BitVec 32) j).toNat < 9) :
    θ_run (Cert.KernelIdeal.defs (F := F)) (Cert.KernelIdeal.threads (F := F)) ⟨m, fun _ => 0, ρ⟩ (fun r => (∀ d : Dev nD,
      r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)
    ∧ r.2.mem ((SparseCore.T d).loc main_arg3) = m ((SparseCore.T d).loc main_arg3)
    ∧ r.2.mem ((SparseCore.T d).loc main_arg4) = m ((SparseCore.T d).loc main_arg4)
    ∧ r.2.mem ((SparseCore.T d).loc main_arg5) = m ((SparseCore.T d).loc main_arg5)
    ∧ r.2.mem ((SparseCore.T d).loc main_arg6) = m ((SparseCore.T d).loc main_arg6)
    ∧ r.2.mem ((SparseCore.T d).loc main_arg7) = m ((SparseCore.T d).loc main_arg7)
    ∧ r.2.mem ((SparseCore.T d).loc main_arg8) = m ((SparseCore.T d).loc main_arg8)
    ∧ r.2.mem ((SparseCore.T d).loc main_arg9) = m ((SparseCore.T d).loc main_arg9)
    ∧ r.2.mem ((SparseCore.T d).loc main_arg10) = m ((SparseCore.T d).loc main_arg10)
    ∧ r.2.mem ((SparseCore.T d).loc main_arg11) = m ((SparseCore.T d).loc main_arg11)
    ∧ r.2.mem ((SparseCore.T d).loc main_arg12) = m ((SparseCore.T d).loc main_arg12)
    ∧ r.2.mem ((SparseCore.T d).loc main_arg13) = m ((SparseCore.T d).loc main_arg13)
    ∧ r.2.mem ((SparseCore.T d).loc main_arg14) = m ((SparseCore.T d).loc main_arg14)) ∧ r.2.sem = fun _ => 0) :=
  (θ_run Cert.KernelIdeal.defs _ _).mono (fun _ h => ⟨fun d => args_kept m h d, h.2⟩) (run_main m ρ (inRange_of m h))

-- the two programs' kernel bodies agree, processor by processor
theorem bodies_vec0 (c s a) : Cert.Kernel.defs₀ (F := F) (.scVector c s) 0 a = Cert.KernelIdeal.defs₀ (F := F) (.scVector c s) 0 a := rfl
theorem bodies_vec1 (c s a) : Cert.Kernel.defs₀ (F := F) (.scVector c s) 1 a = Cert.KernelIdeal.defs₀ (F := F) (.scVector c s) 1 a := rfl
theorem bodies_tc0 (a) : Cert.Kernel.defs₀ (F := F) .tc 0 a = Cert.KernelIdeal.defs₀ (F := F) .tc 0 a := rfl
theorem bodies_tc1 (a) : Cert.Kernel.defs₀ (F := F) .tc 1 a = Cert.KernelIdeal.defs₀ (F := F) .tc 1 a := rfl
theorem bodies_scs (c l a) : Cert.Kernel.defs₀ (F := F) (.scScalar c) l a = Cert.KernelIdeal.defs₀ (F := F) (.scScalar c) l a := rfl

/-- So the tables of bodies agree … -/
theorem bodies_eq : (Cert.Kernel.defs₀ (F := F) : Defs nD τ sig (Elt F) Λ₀) = Cert.KernelIdeal.defs₀ (F := F) := by
  funext p l a
  match p, l, a with
  | .scVector c s, 0, a => exact bodies_vec0 c s a
  | .scVector c s, 1, a => exact bodies_vec1 c s a
  | .tc, 0, a => exact bodies_tc0 a
  | .tc, 1, a => exact bodies_tc1 a
  | .scScalar c, l, a => exact bodies_scs c l a

/-- … and so do the whole body tables. -/
theorem defs_eq : Cert.Kernel.defs (F := F) = Cert.KernelIdeal.defs (F := F) :=
  congrArg (fun D : Defs nD τ sig (Elt F) Λ₀ => Cert.KernelIdeal.sc.defs (Pipeline.defs Cert.KernelIdeal.pcfgs D)) bodies_eq

theorem frame_kernel : Cert.quiescent_Kernel := by
  intro m ρ hp
  rw [defs_eq]
  exact run_args (F := Bits) m ρ (fun d j => cat_below _ _ _ _ _ _ _ _ _ _ _ _ _ _ _ (hp d) j)

theorem frame_kernelIdeal : Cert.quiescent_KernelIdeal := fun m ρ hp =>
  run_args (F := Ideal) m ρ (fun d j => cat_below _ _ _ _ _ _ _ _ _ _ _ _ _ _ _ (hp d) j)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_cat_in_range := fun m ρ _ => frame_reference m ρ trivial

end Cert.Proof.Emb

end
-- ==== Proof.Net.lean ====
/-
  The network's mathematics, one batch element at a time: the dense layers, the rectifier, the log-softmax over the two
  classes. And the block of the result that one point of the dense layers' region computes, read as that.
-/
module

public import proofs.«01_k».proof.Proof.Region
public import Idealize.ShloMosaic.Lib.Pointwise

@[expose] public section

set_option maxRecDepth 16384

noncomputable section

namespace Cert.Proof.Emb

open Cert.KernelIdeal Cert.KernelIdeal.Gen

open Idealize.ShloMosaic

/-! ## The mathematics of one batch element -/

/-- A dense layer: the weights of output `o` against the inputs, and its bias. -/
def dense {K N : ℕ} (W : Fin K → Fin N → EReal) (b : Fin N → EReal) (x : Fin K → EReal) (o : Fin N) : EReal :=
  ∑ k, x k * W k o + b o

/-- The rectifier. -/
def relu {N : ℕ} (x : Fin N → EReal) (o : Fin N) : EReal := max (x o) 0

/-- The greatest of the two logits, and the log-softmax of the two. -/
def top (z : Fin 2 → EReal) : EReal := Finset.univ.fold max ⊥ z
def lsm (z : Fin 2 → EReal) (j : Fin 2) : EReal := z j - top z - Ideal.log (∑ i, Ideal.exp (z i - top z))

/-- The four layers after the first, of the first's sums. -/
def tower (W2 : Fin 200 → Fin 100 → EReal) (b2 : Fin 100 → EReal) (W3 : Fin 100 → Fin 50 → EReal) (b3 : Fin 50 → EReal)
    (W4 : Fin 50 → Fin 20 → EReal) (b4 : Fin 20 → EReal) (W5 : Fin 20 → Fin 2 → EReal) (b5 : Fin 2 → EReal) (h : Fin 200 → EReal) : Fin 2 → EReal :=
  lsm (dense W5 b5 (relu (dense W4 b4 (relu (dense W3 b3 (relu (dense W2 b2 (relu h))))))))

/-- The word of minus infinity reads as the least extended real. -/
theorem bot_word : Ideal.ofBits .f32 0xFF800000#32 = ⊥ := by simp [Ideal.ofBits, Ideal.ieee]

theorem pay2_apply (v0 : Vec Ideal S4096x20 .f32) (v2 : Vec Ideal S20x200 .f32) (v5 : Vec Ideal S39x4096 .f32) (v7 : Vec Ideal S39x200 .f32) (v11 : Vec Ideal S200 .f32)
    (v17 : Vec Ideal S200x100 .f32) (v20 : Vec Ideal S100 .f32) (v26 : Vec Ideal S50x100 .f32) (v28 : Vec Ideal S50 .f32) (r : Fin 4096) (o : Fin 50) :
    k1_pay2 (F := Ideal) v0 v2 v5 v7 v11 v17 v20 v26 v28 (ix2 r o)
      = relu (dense (fun k o => v26 (ix2 o k)) (fun o => v28 (ix1 o)) (relu (dense (fun k o => v17 (ix2 k o)) (fun o => v20 (ix1 o))
          (relu fun o => (∑ k : Fin 20, v0 (ix2 r k) * v2 (ix2 k o)) + (∑ k : Fin 39, v5 (ix2 k r) * v7 (ix2 k o)) + v11 (ix1 o))))) o := by
  pointwise [k1_pay2, relu, dense]

theorem pay1_apply (v33 : FVec Ideal S4096x50 .f32) (v34 : Vec Ideal S20x50 .f32) (v36 : Vec Ideal S20 .f32) (v42 : Vec Ideal S2x20 .f32) (v44 : Vec Ideal S2 .f32)
    (j : Fin 2) (r : Fin 4096) :
    k1_pay1 (F := Ideal) v33 v34 v36 v42 v44 (ix2 j r)
      = lsm (dense (fun k o => v42 (ix2 o k)) (fun o => v44 (ix1 o)) (relu (dense (fun k o => v34 (ix2 o k)) (fun o => v36 (ix1 o)) fun k => v33 (ix2 r k)))) j := by
  pointwise [k1_pay1, relu, dense, lsm, top]
  simp only [bot_word, bot_le, max_eq_right, mul_comm (v42 _)]

/-- A point's block, read: column `r` is the network of row `r` of the point's inputs, the first layer's sums taken over the
    twenty embedding values and the thirty-nine others apart. -/
theorem mlp_apply (x0 : Vec Ideal S39x4096 .f32) (x1 : Vec Ideal S4096x20 .f32) (x2 : Vec Ideal S20x200 .f32) (x3 : Vec Ideal S39x200 .f32) (x4 : Vec Ideal S200 .f32)
    (x5 : Vec Ideal S200x100 .f32) (x6 : Vec Ideal S100 .f32) (x7 : Vec Ideal S50x100 .f32) (x8 : Vec Ideal S50 .f32) (x9 : Vec Ideal S20x50 .f32) (x10 : Vec Ideal S20 .f32)
    (x11 : Vec Ideal S2x20 .f32) (x12 : Vec Ideal S2 .f32) (j : Fin 2) (r : Fin 4096) :
    mlp (F := Ideal) x0 x1 x2 x3 x4 x5 x6 x7 x8 x9 x10 x11 x12 (ix2 j r)
      = tower (fun k o => x5 (ix2 k o)) (fun o => x6 (ix1 o)) (fun k o => x7 (ix2 o k)) (fun o => x8 (ix1 o)) (fun k o => x9 (ix2 o k)) (fun o => x10 (ix1 o))
          (fun k o => x11 (ix2 o k)) (fun o => x12 (ix1 o))
          (fun o => (∑ k : Fin 20, x1 (ix2 r k) * x2 (ix2 k o)) + (∑ k : Fin 39, x0 (ix2 k r) * x3 (ix2 k o)) + x4 (ix1 o)) j := by
  unfold mlp tower
  rw [pay1_apply]
  simp only [pay2_apply]

end Cert.Proof.Emb

end
-- ==== Proof.Dense.lean ====
/-
  The array the dense layers' region leaves: the four points' blocks tile it, and each holds, column by column, the network of
  the rows of the embedding array and of the others that the point stages.
-/
module

public import proofs.«01_k».proof.Proof.Net
public import proofs.«01_k».proof.Proof.Host

@[expose] public section

set_option maxRecDepth 16384

noncomputable section

namespace Cert.Proof.Emb

open Cert.KernelIdeal Cert.KernelIdeal.Gen

open Idealize.ShloMosaic
open Idealize.ShloMosaic.Pipeline (Dat Window)

variable (W : Dev nD → Valuation τ sig (Elt Ideal)) (c : Dev nD)

/-! ## A window's block, read -/

/-- On every axis of each of the windows 2 to 12 the block index is zero. -/
theorem index_whole (t : Fin grid1.N) : (∀ a, win1_2.index t a = 0) ∧ (∀ a, win1_3.index t a = 0) ∧ (∀ a, win1_4.index t a = 0) ∧ (∀ a, win1_5.index t a = 0)
    ∧ (∀ a, win1_6.index t a = 0) ∧ (∀ a, win1_7.index t a = 0) ∧ (∀ a, win1_8.index t a = 0) ∧ (∀ a, win1_9.index t a = 0) ∧ (∀ a, win1_10.index t a = 0)
    ∧ (∀ a, win1_11.index t a = 0) ∧ (∀ a, win1_12.index t a = 0) := by
  refine ⟨?_, ?_, ?_, ?_, ?_, ?_, ?_, ?_, ?_, ?_, ?_⟩ <;> (intro a; fin_cases a <;> rfl)

/-- The two inputs cut in four and the result: point `t` is at block `t` of the batch's axis. -/
theorem index_cut (t : Fin grid1.N) : (win1_0.index t 0 = 0 ∧ win1_0.index t 1 = t.val) ∧ (win1_1.index t 0 = t.val ∧ win1_1.index t 1 = 0)
    ∧ (win1_13.index t 0 = 0 ∧ win1_13.index t 1 = t.val) := by
  rcases fin_N1 t with rfl | rfl | rfl | rfl <;> decide +kernel

theorem at_row (t : Fin grid1.N) (r : Fin 4096) : t.val * 4096 + r.val < 16384 := by
  have := t.isLt; have := N_1; omega

/-- Batch element `r` of point `t`. -/
abbrev elt (t : Fin grid1.N) (r : Fin 4096) : Fin 16384 := ⟨t.val * 4096 + r.val, at_row t r⟩

theorem blk_0 (t : Fin grid1.N) (k : Fin 39) (r : Fin 4096) :
    (iblk W c 0 t : Vec Ideal S39x4096 .f32) (ix2 k r) = (W c (buf main_v6) : Vec Ideal S39x16384 .f32) (ix2 k (elt t r)) := by
  refine congrArg (W c (buf main_v6) : Vec Ideal S39x16384 .f32) (funext fun a => Fin.ext ?_)
  refine (win1_0.rect_emb_val t (ix2 k r) a).trans ?_
  match a with
  | 0 => rw [(index_cut t).1.1]; exact Nat.zero_add _
  | 1 => rw [(index_cut t).1.2]; rfl

theorem blk_1 (t : Fin grid1.N) (r : Fin 4096) (k : Fin 20) :
    (iblk W c 1 t : Vec Ideal S4096x20 .f32) (ix2 r k) = (W c (buf main_v4) : Vec Ideal S16384x20 .f32) (ix2 (elt t r) k) := by
  refine congrArg (W c (buf main_v4) : Vec Ideal S16384x20 .f32) (funext fun a => Fin.ext ?_)
  refine (win1_1.rect_emb_val t (ix2 r k) a).trans ?_
  match a with
  | 0 => rw [(index_cut t).2.1.1]; rfl
  | 1 => rw [(index_cut t).2.1.2]; exact Nat.zero_add _

-- the weights and the biases are staged whole
theorem blk_2 (t : Fin grid1.N) : (iblk W c 2 t : Vec Ideal S20x200 .f32) = (W c (buf main_v7) : Vec Ideal S20x200 .f32) :=
  funext fun y => congrArg (W c (buf main_v7) : Vec Ideal S20x200 .f32) (funext fun a => Fin.ext (win1_2.rect_emb_val_of_index_zero t a ((index_whole t).1 a) y))
theorem blk_3 (t : Fin grid1.N) : (iblk W c 3 t : Vec Ideal S39x200 .f32) = (W c (buf main_v8) : Vec Ideal S39x200 .f32) :=
  funext fun y => congrArg (W c (buf main_v8) : Vec Ideal S39x200 .f32) (funext fun a => Fin.ext (win1_3.rect_emb_val_of_index_zero t a ((index_whole t).2.1 a) y))
theorem blk_4 (t : Fin grid1.N) : (iblk W c 4 t : Vec Ideal S200 .f32) = (W c (buf main_arg6) : Vec Ideal S200 .f32) :=
  funext fun y => congrArg (W c (buf main_arg6) : Vec Ideal S200 .f32) (funext fun a => Fin.ext (win1_4.rect_emb_val_of_index_zero t a ((index_whole t).2.2.1 a) y))
theorem blk_5 (t : Fin grid1.N) : (iblk W c 5 t : Vec Ideal S200x100 .f32) = (W c (buf main_v9) : Vec Ideal S200x100 .f32) :=
  funext fun y => congrArg (W c (buf main_v9) : Vec Ideal S200x100 .f32) (funext fun a => Fin.ext (win1_5.rect_emb_val_of_index_zero t a ((index_whole t).2.2.2.1 a) y))
theorem blk_6 (t : Fin grid1.N) : (iblk W c 6 t : Vec Ideal S100 .f32) = (W c (buf main_arg8) : Vec Ideal S100 .f32) :=
  funext fun y => congrArg (W c (buf main_arg8) : Vec Ideal S100 .f32) (funext fun a => Fin.ext (win1_6.rect_emb_val_of_index_zero t a ((index_whole t).2.2.2.2.1 a) y))
theorem blk_7 (t : Fin grid1.N) : (iblk W c 7 t : Vec Ideal S50x100 .f32) = (W c (buf main_arg9) : Vec Ideal S50x100 .f32) :=
  funext fun y => congrArg (W c (buf main_arg9) : Vec Ideal S50x100 .f32) (funext fun a => Fin.ext (win1_7.rect_emb_val_of_index_zero t a ((index_whole t).2.2.2.2.2.1 a) y))
theorem blk_8 (t : Fin grid1.N) : (iblk W c 8 t : Vec Ideal S50 .f32) = (W c (buf main_arg10) : Vec Ideal S50 .f32) :=
  funext fun y => congrArg (W c (buf main_arg10) : Vec Ideal S50 .f32) (funext fun a => Fin.ext (win1_8.rect_emb_val_of_index_zero t a ((index_whole t).2.2.2.2.2.2.1 a) y))
theorem blk_9 (t : Fin grid1.N) : (iblk W c 9 t : Vec Ideal S20x50 .f32) = (W c (buf main_arg11) : Vec Ideal S20x50 .f32) :=
  funext fun y => congrArg (W c (buf main_arg11) : Vec Ideal S20x50 .f32) (funext fun a => Fin.ext (win1_9.rect_emb_val_of_index_zero t a ((index_whole t).2.2.2.2.2.2.2.1 a) y))
theorem blk_10 (t : Fin grid1.N) : (iblk W c 10 t : Vec Ideal S20 .f32) = (W c (buf main_arg12) : Vec Ideal S20 .f32) :=
  funext fun y => congrArg (W c (buf main_arg12) : Vec Ideal S20 .f32) (funext fun a => Fin.ext (win1_10.rect_emb_val_of_index_zero t a ((index_whole t).2.2.2.2.2.2.2.2.1 a) y))
theorem blk_11 (t : Fin grid1.N) : (iblk W c 11 t : Vec Ideal S2x20 .f32) = (W c (buf main_arg13) : Vec Ideal S2x20 .f32) :=
  funext fun y => congrArg (W c (buf main_arg13) : Vec Ideal S2x20 .f32) (funext fun a => Fin.ext (win1_11.rect_emb_val_of_index_zero t a ((index_whole t).2.2.2.2.2.2.2.2.2.1 a) y))
theorem blk_12 (t : Fin grid1.N) : (iblk W c 12 t : Vec Ideal S2 .f32) = (W c (buf main_arg14) : Vec Ideal S2 .f32) :=
  funext fun y => congrArg (W c (buf main_arg14) : Vec Ideal S2 .f32) (funext fun a => Fin.ext (win1_12.rect_emb_val_of_index_zero t a ((index_whole t).2.2.2.2.2.2.2.2.2.2 a) y))

/-! ## The whole array -/

/-- The network of every row of the two inputs, one column each. -/
def netV (A0 : Vec Ideal S39x16384 .f32) (A1 : Vec Ideal S16384x20 .f32) (A2 : Vec Ideal S20x200 .f32) (A3 : Vec Ideal S39x200 .f32) (A4 : Vec Ideal S200 .f32)
    (A5 : Vec Ideal S200x100 .f32) (A6 : Vec Ideal S100 .f32) (A7 : Vec Ideal S50x100 .f32) (A8 : Vec Ideal S50 .f32) (A9 : Vec Ideal S20x50 .f32) (A10 : Vec Ideal S20 .f32)
    (A11 : Vec Ideal S2x20 .f32) (A12 : Vec Ideal S2 .f32) (j : Fin 2) (r : Fin 16384) : EReal :=
  tower (fun k o => A5 (ix2 k o)) (fun o => A6 (ix1 o)) (fun k o => A7 (ix2 o k)) (fun o => A8 (ix1 o)) (fun k o => A9 (ix2 o k)) (fun o => A10 (ix1 o))
    (fun k o => A11 (ix2 o k)) (fun o => A12 (ix1 o))
    (fun o => (∑ k : Fin 20, A1 (ix2 r k) * A2 (ix2 k o)) + (∑ k : Fin 39, A0 (ix2 k r) * A3 (ix2 k o)) + A4 (ix1 o)) j

/-- The same over the arrays a valuation holds. -/
def netW : Vec Ideal S2x16384 .f32 := fun i =>
  netV (W c (buf main_v6)) (W c (buf main_v4)) (W c (buf main_v7)) (W c (buf main_v8)) (W c (buf main_arg6)) (W c (buf main_v9)) (W c (buf main_arg8))
    (W c (buf main_arg9)) (W c (buf main_arg10)) (W c (buf main_arg11)) (W c (buf main_arg12)) (W c (buf main_arg13)) (W c (buf main_arg14)) (i 0) (i 1)

/-- What a point computes, at column `r`, is the network of batch element `r` of the point. -/
theorem oblk_apply (t : Fin grid1.N) (j : Fin 2) (r : Fin 4096) : oblk W c t (ix2 j r) = netW W c (ix2 j (elt t r)) := by
  unfold oblk
  rw [blk_2 W c t, blk_3 W c t, blk_4 W c t, blk_5 W c t, blk_6 W c t, blk_7 W c t, blk_8 W c t, blk_9 W c t, blk_10 W c t, blk_11 W c t, blk_12 W c t, mlp_apply]
  simp only [blk_0, blk_1]
  rfl

/-- What a point writes back is its block of the whole. -/
theorem flushed_eq (t : Fin cfg1.N) : (dats W 0 c).flushed 13 t = ((cfg1.win 13).blk t).view.read (Elt Ideal) (netW W c) := by
  show (cfg1.win 13).cut (grid1.coords t) ((dats W 0 c).after 13 t) = _
  rw [after_out]
  funext y
  have hy : (y : S2x4096.Idx) = ix2 ((y : S2x4096.Idx) 0) ((y : S2x4096.Idx) 1) := eq_ix2 (y : S2x4096.Idx)
  have e : ((win1_13.rect t).emb y : S2x16384.Idx) = ix2 ((y : S2x4096.Idx) 0) (elt t ((y : S2x4096.Idx) 1)) := by
    funext a
    refine Fin.ext ((win1_13.rect_emb_val t y a).trans ?_)
    match a with
    | 0 => rw [(index_cut t).2.2.1]; exact Nat.zero_add _
    | 1 => rw [(index_cut t).2.2.2]; rfl
  show oblk W c t y = netW W c ((win1_13.rect t).emb y)
  rw [e]
  exact (congrArg (oblk W c t) hy).trans (oblk_apply W c t _ _)

/-- The four blocks tile the array. -/
theorem cover (i : S2x16384.Idx) : ∃ t : Fin cfg1.N, (cfg1.win 13).flush t = true ∧ i ∈ ((cfg1.win 13).blk t).view.set := by
  have h0 : (i 0 : Nat) < 2 := (i 0).isLt
  have h1 : (i 1 : Nat) < 16384 := (i 1).isLt
  have hN : cfg1.N = 4 := N_1
  refine ⟨⟨(i 1 : Nat) / 4096, by omega⟩, flush1_13 _, ?_⟩
  generalize ht : (⟨(i 1 : Nat) / 4096, _⟩ : Fin cfg1.N) = t
  have hv : t.val = (i 1 : Nat) / 4096 := by rw [← ht]
  show i ∈ ((View.whole main_v10).slice (win1_13.rect t)).set
  rw [View.set_slice_whole, Rect.mem_set_unit]
  intro a
  match a with
  | 0 =>
    show win1_13.index t 0 * 2 ≤ (i 0 : Nat) ∧ (i 0 : Nat) < win1_13.index t 0 * 2 + 2
    rw [(index_cut t).2.2.1]; omega
  | 1 =>
    show win1_13.index t 1 * 4096 ≤ (i 1 : Nat) ∧ (i 1 : Nat) < win1_13.index t 1 * 4096 + 4096
    rw [(index_cut t).2.2.2, hv]; omega

/-- So the array ends at the network, whole. -/
theorem region_out : (dats W 0 c).arrAt 13 cfg1.N = netW W c :=
  (dats W 0 c).arrAt_eq_of_cover 13 (netW W c) (fun t _ => flushed_eq W c t) cover

end Cert.Proof.Emb

end
-- ==== Proof.RefTake.lean ====
/-
  The reference's table lookups. Each is `jnp.take` along the rows of a table: the index wrapped when negative, the rows gathered,
  the rows of an index past the table's end replaced. At an index below nine, the height of the shortest table, it is the
  table's row.
-/
module

public import proofs.«01_k».proof.Proof.Gen.ReferenceIdeal
public import Idealize.ShloMosaic.Lib.Routing.Ops
public import Idealize.ShloMosaic.Lib.Routing.OpsPair
public import Idealize.ShloMosaic.Lib.ReduceAll
public import Idealize.ShloMosaic.Lib.StableHlo.Predicate

@[expose] public section

noncomputable section

namespace Cert.Proof.Ref

open Cert.ReferenceIdeal Cert.ReferenceIdeal.Gen
open Idealize.ShloMosaic Idealize.ShloMosaic.ValueIdx Idealize.ShloMosaic.Routing

/-- Column `k` of the categories. -/
def col (k : ℕ) (h : S16384x3.Slices ![0, k] S16384x1) (x : IVec S16384x3 32) : IVec S16384 32 :=
  shapeCast _ (extractStridedSlice S16384x1 ![0, k] x h) shapeCasts_S16384x1_S16384

theorem col_apply {k : ℕ} (h : S16384x3.Slices ![0, k] S16384x1) (x : IVec S16384x3 32) (k' : Fin 3) (hk : k'.val = k) (r : Fin 16384) :
    col k h x (ix1 r) = x (ix2 r k') := by
  unfold col
  refine (cast21 (a := 16384) (b := 1) (n := 16384) _ _ r 0 r (by simp)).trans ?_
  unfold extractStridedSlice
  refine congrArg x (funext fun a => Fin.ext ?_)
  match a with
  | ⟨0, _⟩ => exact Nat.zero_add _
  | ⟨1, _⟩ => exact hk.symm

/-- The index as gathered at, one column: a negative one counted from the table's end. -/
def wrap (N : BitVec 32) (i : IVec S16384 32) : IVec S16384x1 32 :=
  broadcastInDim S16384x1 ![0] bcast_S16384_S16384x1_0
    (select (cmpi .slt i (broadcastInDim S16384 ![] bcast_S_S16384 (constantI S_ 32 0#32))) (addi i (broadcastInDim S16384 ![] bcast_S_S16384 (constantI S_ 32 N))) i)

theorem wrap_apply (N : BitVec 32) (i : IVec S16384 32) (r : Fin 16384) (h : (i (ix1 r)).toNat < 9) : wrap N i (ix2 r (0 : Fin 1)) = i (ix1 r) := by
  unfold wrap
  refine (bcCol (n := 16384) _ _ r).trans ?_
  exact wrap_of_lt _ _ (by omega)

/-- The bit of an index that lies in the table, the last row `N1`. -/
def inside (N1 : BitVec 32) (i : IVec S16384x1 32) : IVec S16384 1 :=
  Host.reduce IntOp.andi (andi (cmpi .sge i (broadcastInDim S16384x1 ![] bcast_S_S16384x1 (constantI S_ 32 0#32)))
    (cmpi .sle i (broadcastInDim S16384x1 ![0, 1] bcast_S1x1_S16384x1_0_1 (broadcastInDim S1x1 ![1] bcast_S1_S1x1_1 (constantI S1 32 N1)))))
    (constantI S_ 1 1#1) reducesTo_S16384x1_S16384_d1 h_S_

theorem inside_apply (N1 : BitVec 32) (i : IVec S16384x1 32) (h : ∀ r : Fin 16384, (i (ix2 r (0 : Fin 1))).toNat < 9) (h8 : 8 ≤ N1.toNat) (hN : N1.toNat < 2 ^ 31)
    (j : S16384.Idx) : inside N1 i j = 1#1 := by
  refine Host.reduce_andi_one _ _ _ _ j rfl fun q => ?_
  have hq : q = ix2 (q 0) (0 : Fin 1) := (eq_ix2 q).trans (congrArg (ix2 (q 0)) (Fin.eq_zero (q 1)))
  have hi : (i q).toNat < 9 := by rw [hq]; exact h (q 0)
  refine IntOp.andi_eq_one.2 ⟨?_, ?_⟩
  · exact (StableHlo.Predicate.sge_iff_toNat (b := 0#32) (by omega) (by decide)).2 (Nat.zero_le _)
  · exact (StableHlo.Predicate.sle_iff_toNat (by omega) hN).2 (show (i q).toNat ≤ N1.toNat by omega)

variable {F : FTy → Type} [FloatOps F]

/-- A lookup. -/
def take {nb B : ℕ} (h1 : S16384.BroadcastsInDim (shape2 16384 B) (![0] : Fin 1 → Fin (shape2 16384 B).rank))
    (h0 : S_.BroadcastsInDim (shape2 16384 B) (![] : Fin 0 → Fin (shape2 16384 B).rank))
    (d : GatherDims (shape2 nb B) (shape2 16384 1) (shape2 16384 B)) (N N1 : BitVec 32) (T : FVec F (shape2 nb B) .f32) (i : IVec S16384 32) :
    FVec F (shape2 16384 B) .f32 :=
  select (broadcastInDim (shape2 16384 B) ![0] h1 (inside N1 (wrap N i))) (Host.gather d T (wrap N i))
    (broadcastInDim (shape2 16384 B) ![] h0 (constant S_ .f32 0x7FC00000#32))

/-- A lookup at indices below nine reads the table's rows. -/
theorem take_apply {nb B : ℕ} (h1 : S16384.BroadcastsInDim (shape2 16384 B) (![0] : Fin 1 → Fin (shape2 16384 B).rank))
    (h0 : S_.BroadcastsInDim (shape2 16384 B) (![] : Fin 0 → Fin (shape2 16384 B).rank))
    (d : GatherDims (shape2 nb B) (shape2 16384 1) (shape2 16384 B)) (hoff : d.offsetDims = [1]) (hcoll : d.collapsedSliceDims = [0])
    (hob : d.operandBatchingDims = []) (hsim : d.startIndexMap = [0]) (hivd : d.indexVectorDim = 1) (N N1 : BitVec 32) (T : FVec F (shape2 nb B) .f32)
    (i : IVec S16384 32) (hi : ∀ r, (i (ix1 r)).toNat < 9) (h8 : 8 ≤ N1.toNat) (hN : N1.toNat < 2 ^ 31) (hnb : nb < 2 ^ 31)
    (r : Fin 16384) (y : Fin B) (b : Fin nb) (hb : (i (ix1 r)).toNat = b.val) :
    take h1 h0 d N N1 T i (ix2 r y) = T (ix2 b y) := by
  have hw : ∀ r, wrap N i (ix2 r (0 : Fin 1)) = i (ix1 r) := fun r => wrap_apply N i r (hi r)
  have hm : broadcastInDim (shape2 16384 B) ![0] h1 (inside N1 (wrap N i)) (ix2 r y) = 1#1 :=
    inside_apply N1 _ (fun r => by rw [hw]; exact hi r) h8 hN _
  unfold take
  rw [select_apply, hm, select_one]
  refine gather_row d hoff hcoll hob hsim hivd T _ r y b ?_ hnb
  rw [hw, ← hb]; exact (by simp : i (ix1 r) = BitVec.ofNat 32 (i (ix1 r)).toNat)

end Cert.Proof.Ref

end
-- ==== Proof.RefNet.lean ====
/-
  The reference's result, stage by stage, and each stage read at an index: the three lookups, the layers, the log-softmax.
-/
module

public import proofs.«01_k».proof.Proof.RefTake
public import proofs.«01_k».proof.Proof.Net
public import proofs.«01_k».proof.Proof.Gen.ReferenceIdeal.Run

@[expose] public section

set_option maxRecDepth 16384

noncomputable section

namespace Cert.Proof.Ref

open Cert.ReferenceIdeal Cert.ReferenceIdeal.Gen
open Idealize.ShloMosaic Idealize.ShloMosaic.TcCoe
open Cert.Proof.Emb (dense relu top lsm tower bot_word)

section Stages

variable {F : FTy → Type} [FloatOps F]

-- the dense layers, the first four rectified
def layer200 (x : FVec F S16384x59 .f32) (w : FVec F S200x59 .f32) (b : FVec F S200 .f32) : FVec F S16384x200 .f32 :=
  maximumf (addf (Host.dotGeneral dot_S16384x59_S59x200_S16384x200_1_0_0_1_n_n none x (transpose S59x200 [1, 0] w transposes_S200x59_S59x200_1_0))
    (broadcastInDim S16384x200 ![0, 1] bcast_S1x200_S16384x200_0_1 (broadcastInDim S1x200 ![1] bcast_S200_S1x200_1 b))) (broadcastInDim S16384x200 ![] bcast_S_S16384x200 (constant S_ .f32 0x00000000#32))
def layer100 (x : FVec F S16384x200 .f32) (w : FVec F S100x200 .f32) (b : FVec F S100 .f32) : FVec F S16384x100 .f32 :=
  maximumf (addf (Host.dotGeneral dot_S16384x200_S200x100_S16384x100_1_0_0_1_n_n none x (transpose S200x100 [1, 0] w transposes_S100x200_S200x100_1_0))
    (broadcastInDim S16384x100 ![0, 1] bcast_S1x100_S16384x100_0_1 (broadcastInDim S1x100 ![1] bcast_S100_S1x100_1 b))) (broadcastInDim S16384x100 ![] bcast_S_S16384x100 (constant S_ .f32 0x00000000#32))
def layer50 (x : FVec F S16384x100 .f32) (w : FVec F S50x100 .f32) (b : FVec F S50 .f32) : FVec F S16384x50 .f32 :=
  maximumf (addf (Host.dotGeneral dot_S16384x100_S100x50_S16384x50_1_0_0_1_n_n none x (transpose S100x50 [1, 0] w transposes_S50x100_S100x50_1_0))
    (broadcastInDim S16384x50 ![0, 1] bcast_S1x50_S16384x50_0_1 (broadcastInDim S1x50 ![1] bcast_S50_S1x50_1 b))) (broadcastInDim S16384x50 ![] bcast_S_S16384x50 (constant S_ .f32 0x00000000#32))
def layer20 (x : FVec F S16384x50 .f32) (w : FVec F S20x50 .f32) (b : FVec F S20 .f32) : FVec F S16384x20 .f32 :=
  maximumf (addf (Host.dotGeneral dot_S16384x50_S50x20_S16384x20_1_0_0_1_n_n none x (transpose S50x20 [1, 0] w transposes_S20x50_S50x20_1_0))
    (broadcastInDim S16384x20 ![0, 1] bcast_S1x20_S16384x20_0_1 (broadcastInDim S1x20 ![1] bcast_S20_S1x20_1 b))) (broadcastInDim S16384x20 ![] bcast_S_S16384x20 (constant S_ .f32 0x00000000#32))
def layer2 (x : FVec F S16384x20 .f32) (w : FVec F S2x20 .f32) (b : FVec F S2 .f32) : FVec F S16384x2 .f32 :=
  addf (Host.dotGeneral dot_S16384x20_S20x2_S16384x2_1_0_0_1_n_n none x (transpose S20x2 [1, 0] w transposes_S2x20_S20x2_1_0))
    (broadcastInDim S16384x2 ![0, 1] bcast_S1x2_S16384x2_0_1 (broadcastInDim S1x2 ![1] bcast_S2_S1x2_1 b))

/-- The log-softmax of the rows. -/
def soft (z : FVec F S16384x2 .f32) : FVec F S16384x2 .f32 :=
  have mx : FVec F S16384 .f32 := maximumf (broadcastInDim S16384 ![] bcast_S_S16384 (constant S_ .f32 0xFF800000#32))
    (Host.reduce FloatOps.maximumf z (constant S_ .f32 0xFF800000#32) reducesTo_S16384x2_S16384_d1 h_S_)
  have d : FVec F S16384x2 .f32 := subf z (broadcastInDim S16384x2 ![0, 1] bcast_S16384x1_S16384x2_0_1 (broadcastInDim S16384x1 ![0] bcast_S16384_S16384x1_0 mx))
  subf d (broadcastInDim S16384x2 ![0, 1] bcast_S16384x1_S16384x2_0_1
    (Host.log (broadcastInDim S16384x1 ![0] bcast_S16384_S16384x1_0 (Host.reduceAdd (Host.exp d) (constant S_ .f32 0x00000000#32) reducesTo_S16384x2_S16384_d1 h_S_))))

/-- The network's input: the three embeddings side by side, then the others. -/
def input (x0 : FVec F S16384x39 .f32) (x1 : IVec S16384x3 32) (x2 : FVec F S133x10 .f32) (x3 : FVec F S13x6 .f32) (x4 : FVec F S9x4 .f32) : FVec F S16384x59 .f32 :=
  concatenate S16384x59 1 [⟨S16384x20, concatenate S16384x20 1
    [⟨S16384x10, take bcast_S16384_S16384x10_0 bcast_S_S16384x10 gather_S133x10_S16384x1_S16384x10_1_0_n_n_0_1_110 133#32 132#32 x2 (col 0 slices_S16384x3_S16384x1_0_0 x1)⟩,
     ⟨S16384x6, take bcast_S16384_S16384x6_0 bcast_S_S16384x6 gather_S13x6_S16384x1_S16384x6_1_0_n_n_0_1_16 13#32 12#32 x3 (col 1 slices_S16384x3_S16384x1_0_1 x1)⟩,
     ⟨S16384x4, take bcast_S16384_S16384x4_0 bcast_S_S16384x4 gather_S9x4_S16384x1_S16384x4_1_0_n_n_0_1_14 9#32 8#32 x4 (col 2 slices_S16384x3_S16384x1_0_2 x1)⟩]
    concatenates_S16384x10_S16384x6_S16384x4_S16384x20_d1⟩, ⟨S16384x39, x0⟩] concatenates_S16384x20_S16384x39_S16384x59_d1

/-- The whole reference, of its arguments. -/
def whole (x0 : FVec F S16384x39 .f32) (x1 : IVec S16384x3 32) (x2 : FVec F S133x10 .f32) (x3 : FVec F S13x6 .f32) (x4 : FVec F S9x4 .f32)
    (x5 : FVec F S200x59 .f32) (x6 : FVec F S200 .f32) (x7 : FVec F S100x200 .f32) (x8 : FVec F S100 .f32) (x9 : FVec F S50x100 .f32) (x10 : FVec F S50 .f32)
    (x11 : FVec F S20x50 .f32) (x12 : FVec F S20 .f32) (x13 : FVec F S2x20 .f32) (x14 : FVec F S2 .f32) : FVec F S16384x2 .f32 :=
  soft (layer2 (layer20 (layer50 (layer100 (layer200 (input x0 x1 x2 x3 x4) x5 x6) x7 x8) x9 x10) x11 x12) x13 x14)

/-- The reference's result is these stages. -/
theorem res_eq (m : (ℓ : Loc nD τ sig) → Buf (Elt F) ℓ) (c : Dev nD) :
    Cert.ReferenceIdeal.Value.res_main_v40 m c
      = whole (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14)) := rfl

end Stages

/-! ## Read at an index -/

theorem layer200_apply (x : FVec Ideal S16384x59 .f32) (w : FVec Ideal S200x59 .f32) (b : FVec Ideal S200 .f32) (r : Fin 16384) (o : Fin 200) :
    layer200 x w b (ix2 r o) = relu (dense (fun k o => w (ix2 o k)) (fun o => b (ix1 o)) fun k => x (ix2 r k)) o := by
  pointwise [layer200, relu, dense]
theorem layer100_apply (x : FVec Ideal S16384x200 .f32) (w : FVec Ideal S100x200 .f32) (b : FVec Ideal S100 .f32) (r : Fin 16384) (o : Fin 100) :
    layer100 x w b (ix2 r o) = relu (dense (fun k o => w (ix2 o k)) (fun o => b (ix1 o)) fun k => x (ix2 r k)) o := by
  pointwise [layer100, relu, dense]
theorem layer50_apply (x : FVec Ideal S16384x100 .f32) (w : FVec Ideal S50x100 .f32) (b : FVec Ideal S50 .f32) (r : Fin 16384) (o : Fin 50) :
    layer50 x w b (ix2 r o) = relu (dense (fun k o => w (ix2 o k)) (fun o => b (ix1 o)) fun k => x (ix2 r k)) o := by
  pointwise [layer50, relu, dense]
theorem layer20_apply (x : FVec Ideal S16384x50 .f32) (w : FVec Ideal S20x50 .f32) (b : FVec Ideal S20 .f32) (r : Fin 16384) (o : Fin 20) :
    layer20 x w b (ix2 r o) = relu (dense (fun k o => w (ix2 o k)) (fun o => b (ix1 o)) fun k => x (ix2 r k)) o := by
  pointwise [layer20, relu, dense]
theorem layer2_apply (x : FVec Ideal S16384x20 .f32) (w : FVec Ideal S2x20 .f32) (b : FVec Ideal S2 .f32) (r : Fin 16384) (o : Fin 2) :
    layer2 x w b (ix2 r o) = (dense (fun k o => w (ix2 o k)) (fun o => b (ix1 o)) fun k => x (ix2 r k)) o := by
  pointwise [layer2, relu, dense]

theorem soft_apply (z : FVec Ideal S16384x2 .f32) (r : Fin 16384) (j : Fin 2) : soft z (ix2 r j) = lsm (fun j => z (ix2 r j)) j := by
  pointwise [soft, lsm, top]
  simp only [bot_word, bot_le, max_eq_right]

section Input

variable (x0 : FVec Ideal S16384x39 .f32) (x1 : IVec S16384x3 32) (x2 : FVec Ideal S133x10 .f32) (x3 : FVec Ideal S13x6 .f32) (x4 : FVec Ideal S9x4 .f32)
  (hi : ∀ r k, (x1 (ix2 r k)).toNat < 9) (r : Fin 16384) (k : Fin 59)

include hi

theorem col_below (q : Nat) (h : S16384x3.Slices ![0, q] S16384x1) (q' : Fin 3) (hq : q'.val = q) (r : Fin 16384) :
    (col q h x1 (ix1 r)).toNat < 9 :=
  lt_of_eq_of_lt (congrArg BitVec.toNat (col_apply h x1 q' hq r)) (hi r q')

/-- The first ten columns: the first table's row. -/
theorem input_first (l : Fin 10) (hk : k.val = l.val) (b : Fin 133) (hb : (x1 (ix2 r 0)).toNat = b.val) :
    input x0 x1 x2 x3 x4 (ix2 r k) = x2 (ix2 b l) := by
  have hl := l.isLt
  have hl' : (⟨k.val, by omega⟩ : Fin 10) = l := Fin.ext hk
  pointwise [input]
  rw [dif_pos (by omega), dif_pos (by omega), hl']
  exact take_apply _ _ _ rfl rfl rfl rfl rfl _ _ _ _ (col_below x1 hi _ _ 0 rfl) (by decide) (by decide) (by decide) r l b
    ((congrArg BitVec.toNat (col_apply _ x1 0 rfl r)).trans hb)

/-- The next six: the second table's. -/
theorem input_second (l : Fin 6) (hk : k.val = 10 + l.val) (b : Fin 13) (hb : (x1 (ix2 r 1)).toNat = b.val) :
    input x0 x1 x2 x3 x4 (ix2 r k) = x3 (ix2 b l) := by
  have hl := l.isLt
  have hl' : (⟨k.val - 10, by omega⟩ : Fin 6) = l := Fin.ext (by show k.val - 10 = l.val; omega)
  pointwise [input]
  rw [dif_pos (by omega), dif_neg (by omega), dif_pos (by omega), hl']
  exact take_apply _ _ _ rfl rfl rfl rfl rfl _ _ _ _ (col_below x1 hi _ _ 1 rfl) (by decide) (by decide) (by decide) r l b
    ((congrArg BitVec.toNat (col_apply _ x1 1 rfl r)).trans hb)

/-- The next four: the third table's. -/
theorem input_third (l : Fin 4) (hk : k.val = 16 + l.val) (b : Fin 9) (hb : (x1 (ix2 r 2)).toNat = b.val) :
    input x0 x1 x2 x3 x4 (ix2 r k) = x4 (ix2 b l) := by
  have hl := l.isLt
  have hl' : (⟨k.val - 10 - 6, by omega⟩ : Fin 4) = l := Fin.ext (by show k.val - 10 - 6 = l.val; omega)
  pointwise [input]
  rw [dif_pos (by omega), dif_neg (by omega), dif_neg (by omega), hl']
  exact take_apply _ _ _ rfl rfl rfl rfl rfl _ _ _ _ (col_below x1 hi _ _ 2 rfl) (by decide) (by decide) (by decide) r l b
    ((congrArg BitVec.toNat (col_apply _ x1 2 rfl r)).trans hb)

omit hi in
/-- The rest: the other features. -/
theorem input_rest (l : Fin 39) (hk : k.val = 20 + l.val) : input x0 x1 x2 x3 x4 (ix2 r k) = x0 (ix2 r l) := by
  have hl := l.isLt
  have hl' : (⟨k.val - 20, by omega⟩ : Fin 39) = l := Fin.ext (by show k.val - 20 = l.val; omega)
  pointwise [input]
  rw [dif_neg (by omega), hl']

end Input

/-- The reference at an index: the network of the row's input. -/
theorem whole_apply (x0 : FVec Ideal S16384x39 .f32) (x1 : IVec S16384x3 32) (x2 : FVec Ideal S133x10 .f32) (x3 : FVec Ideal S13x6 .f32) (x4 : FVec Ideal S9x4 .f32)
    (x5 : FVec Ideal S200x59 .f32) (x6 : FVec Ideal S200 .f32) (x7 : FVec Ideal S100x200 .f32) (x8 : FVec Ideal S100 .f32) (x9 : FVec Ideal S50x100 .f32) (x10 : FVec Ideal S50 .f32)
    (x11 : FVec Ideal S20x50 .f32) (x12 : FVec Ideal S20 .f32) (x13 : FVec Ideal S2x20 .f32) (x14 : FVec Ideal S2 .f32) (r : Fin 16384) (j : Fin 2) :
    whole x0 x1 x2 x3 x4 x5 x6 x7 x8 x9 x10 x11 x12 x13 x14 (ix2 r j)
      = tower (fun k o => x7 (ix2 o k)) (fun o => x8 (ix1 o)) (fun k o => x9 (ix2 o k)) (fun o => x10 (ix1 o)) (fun k o => x11 (ix2 o k)) (fun o => x12 (ix1 o))
          (fun k o => x13 (ix2 o k)) (fun o => x14 (ix1 o))
          (dense (fun k o => x5 (ix2 o k)) (fun o => x6 (ix1 o)) fun k => input x0 x1 x2 x3 x4 (ix2 r k)) j := by
  unfold whole
  rw [soft_apply]
  simp only [layer2_apply, layer20_apply, layer50_apply, layer100_apply, layer200_apply]
  rfl

end Cert.Proof.Ref

end
-- ==== Proof.Value.lean ====
/-
  The kernel's result is the reference's function of the arguments: the lookup and the first layer's two products are the reference's input
  under its one product, and the layers after it are the same.
-/
module

public import proofs.«01_k».proof.Proof.Dense
public import proofs.«01_k».proof.Proof.RefNet
public import Idealize.ShloMosaic.Lib.ValueLayout

@[expose] public section

set_option maxRecDepth 16384

noncomputable section

namespace Cert.Proof.Emb

open Cert.KernelIdeal Cert.KernelIdeal.Gen

open Idealize.ShloMosaic Idealize.ShloMosaic.TcCoe
open Idealize.ShloMosaic.StableHlo (after)

variable (m : (ℓ : Loc nD τ sig) → Buf (Elt Ideal) ℓ) (d : Dev nD)

/-! ## What the region reads, of the arguments -/

theorem V3_v6 : V3 m d (buf main_v6) = (transpose S39x16384 [1, 0] · transposes_S16384x39_S39x16384_1_0) (m ((SparseCore.T d).loc main_arg0)) := by
  unfold V3; simp only [after]
  rw [StableHlo.unary_result_ne _ _ _ _ _ _ (by decide), StableHlo.unary_result_ne _ _ _ _ _ _ (by decide), StableHlo.unary_result_ne _ _ _ _ _ _ (by decide),
    StableHlo.unary_result, StableHlo.unary_result_ne _ _ _ _ _ _ (by decide)]
  exact congrArg (transpose S39x16384 [1, 0] · transposes_S16384x39_S39x16384_1_0) (V2_keeps m d (r := main_arg0) (by decide) (by decide))

theorem V3_v9 : V3 m d (buf main_v9) = (transpose S200x100 [1, 0] · transposes_S100x200_S200x100_1_0) (m ((SparseCore.T d).loc main_arg7)) := by
  unfold V3; simp only [after]
  rw [StableHlo.unary_result, StableHlo.unary_result_ne _ _ _ _ _ _ (by decide), StableHlo.unary_result_ne _ _ _ _ _ _ (by decide),
    StableHlo.unary_result_ne _ _ _ _ _ _ (by decide), StableHlo.unary_result_ne _ _ _ _ _ _ (by decide)]
  exact congrArg (transpose S200x100 [1, 0] · transposes_S100x200_S200x100_1_0) (V2_keeps m d (r := main_arg7) (by decide) (by decide))

theorem V3_v7 : V3 m d (buf main_v7)
    = extractStridedSlice S20x200 ![0, 0] ((transpose S59x200 [1, 0] · transposes_S200x59_S59x200_1_0) (m ((SparseCore.T d).loc main_arg5))) slices_S59x200_S20x200_0_0 := by
  unfold V3; simp only [after]
  rw [StableHlo.unary_result_ne _ _ _ _ _ _ (by decide), StableHlo.unary_result_ne _ _ _ _ _ _ (by decide), StableHlo.unary_result,
    StableHlo.unary_result_ne _ _ _ _ _ _ (by decide), StableHlo.unary_result]
  exact congrArg (fun x => extractStridedSlice S20x200 ![0, 0] (transpose S59x200 [1, 0] x transposes_S200x59_S59x200_1_0) slices_S59x200_S20x200_0_0)
    (V2_keeps m d (r := main_arg5) (by decide) (by decide))

theorem V3_v8 : V3 m d (buf main_v8)
    = extractStridedSlice S39x200 ![20, 0] ((transpose S59x200 [1, 0] · transposes_S200x59_S59x200_1_0) (m ((SparseCore.T d).loc main_arg5))) slices_S59x200_S39x200_20_0 := by
  unfold V3; simp only [after]
  rw [StableHlo.unary_result_ne _ _ _ _ _ _ (by decide), StableHlo.unary_result, StableHlo.unary_result_ne _ _ _ _ _ _ (by decide),
    StableHlo.unary_result_ne _ _ _ _ _ _ (by decide), StableHlo.unary_result]
  exact congrArg (fun x => extractStridedSlice S39x200 ![20, 0] (transpose S59x200 [1, 0] x transposes_S200x59_S59x200_1_0) slices_S59x200_S39x200_20_0)
    (V2_keeps m d (r := main_arg5) (by decide) (by decide))

/-- The result is the network's array, transposed. -/
theorem V5_v11 : V5 m d (buf main_v11) = (transpose S16384x2 [1, 0] · transposes_S2x16384_S16384x2_1_0) (netW (V3 m) d) := by
  unfold V5
  rw [StableHlo.unary_result]
  refine congrArg (transpose S16384x2 [1, 0] · transposes_S2x16384_S16384x2_1_0) ?_
  exact (Pipeline.afterRegion_arr (dats (V3 m) 0 d) (V3 m d) winFacts1.arr_inj 13).trans (region_out (V3 m) d)

/-! ## The lookup and the input -/

section Row

variable (x0 : FVec Ideal S16384x39 .f32) (x1 : IVec S16384x3 32) (x2 : FVec Ideal S133x10 .f32) (x3 : FVec Ideal S13x6 .f32) (x4 : FVec Ideal S9x4 .f32)

/-- A lookup of transposed tables at transposed categories is the embeddings' part of the input. -/
theorem gath_input (hi : ∀ r k, (x1 (ix2 r k)).toNat < 9) (r : Fin 16384) (k : Fin 20) :
    gath (n := 16384) (transpose S3x16384 [1, 0] x1 transposes_S16384x3_S3x16384_1_0) (transpose S10x133 [1, 0] x2 transposes_S133x10_S10x133_1_0)
        (transpose S6x13 [1, 0] x3 transposes_S13x6_S6x13_1_0) (transpose S4x9 [1, 0] x4 transposes_S9x4_S4x9_1_0) (ix2 r k)
      = Ref.input x0 x1 x2 x3 x4 (ix2 r ⟨k.val, by omega⟩) := by
  have h0 := hi r 0
  have h1 := hi r 1
  have h2 := hi r 2
  have hk := k.isLt
  rcases lt_or_ge k.val 10 with h | h
  · rw [Ref.input_first x0 x1 x2 x3 x4 hi r _ ⟨k.val, h⟩ rfl ⟨_, h0.trans_le (by decide)⟩ rfl]
    refine (gath_first _ _ _ _ ⟨k.val, h⟩ ⟨_, h0.trans_le (by decide)⟩ rfl ?_).trans ?_
    · exact congrArg BitVec.toNat (ValueIdx.transpose_ix2_apply x1 _ (0 : Fin 3) r)
    · exact ValueIdx.transpose_ix2_apply x2 _ _ _
  rcases lt_or_ge k.val 16 with h' | h'
  · rw [Ref.input_second x0 x1 x2 x3 x4 hi r _ ⟨k.val - 10, by omega⟩ (by show k.val = 10 + (k.val - 10); omega) ⟨_, h1.trans_le (by decide)⟩ rfl]
    refine (gath_second _ _ _ _ ⟨k.val - 10, by omega⟩ ⟨_, h1.trans_le (by decide)⟩ (by show k.val = 10 + (k.val - 10); omega) ?_).trans ?_
    · exact congrArg BitVec.toNat (ValueIdx.transpose_ix2_apply x1 _ (1 : Fin 3) r)
    · exact ValueIdx.transpose_ix2_apply x3 _ _ _
  · rw [Ref.input_third x0 x1 x2 x3 x4 hi r _ ⟨k.val - 16, by omega⟩ (by show k.val = 16 + (k.val - 16); omega) ⟨_, h2.trans_le (by decide)⟩ rfl]
    refine (gath_third _ _ _ _ ⟨k.val - 16, by omega⟩ ⟨_, h2.trans_le (by decide)⟩ (by show k.val = 16 + (k.val - 16); omega) ?_).trans ?_
    · exact congrArg BitVec.toNat (ValueIdx.transpose_ix2_apply x1 _ (2 : Fin 3) r)
    · exact ValueIdx.transpose_ix2_apply x4 _ _ _

/-- The first layer: the kernel's two products are the reference's one, cut after the embeddings. -/
theorem first_layer (hi : ∀ r k, (x1 (ix2 r k)).toNat < 9) (x5 : FVec Ideal S200x59 .f32) (x6 : FVec Ideal S200 .f32) (r : Fin 16384) (o : Fin 200) :
    (∑ k : Fin 20, gath (n := 16384) (transpose S3x16384 [1, 0] x1 transposes_S16384x3_S3x16384_1_0) (transpose S10x133 [1, 0] x2 transposes_S133x10_S10x133_1_0)
        (transpose S6x13 [1, 0] x3 transposes_S13x6_S6x13_1_0) (transpose S4x9 [1, 0] x4 transposes_S9x4_S4x9_1_0) (ix2 r k)
        * extractStridedSlice S20x200 ![0, 0] (transpose S59x200 [1, 0] x5 transposes_S200x59_S59x200_1_0) slices_S59x200_S20x200_0_0 (ix2 k o))
      + (∑ k : Fin 39, transpose S39x16384 [1, 0] x0 transposes_S16384x39_S39x16384_1_0 (ix2 k r)
        * extractStridedSlice S39x200 ![20, 0] (transpose S59x200 [1, 0] x5 transposes_S200x59_S59x200_1_0) slices_S59x200_S39x200_20_0 (ix2 k o))
      + x6 (ix1 o)
    = dense (fun k o => x5 (ix2 o k)) (fun o => x6 (ix1 o)) (fun k => Ref.input x0 x1 x2 x3 x4 (ix2 r k)) o := by
  show _ = (∑ k : Fin 59, Ref.input x0 x1 x2 x3 x4 (ix2 r k) * x5 (ix2 o k)) + x6 (ix1 o)
  rw [Fin.sum_univ_two_halves 20 39 rfl (fun k : Fin 59 => Ref.input x0 x1 x2 x3 x4 (ix2 r k) * x5 (ix2 o k))]
  refine congrArg (· + _) (congrArg₂ (· + ·) (Finset.sum_congr rfl fun k _ => ?_) (Finset.sum_congr rfl fun k _ => ?_))
  · rw [gath_input x0 x1 x2 x3 x4 hi r k]
    pointwise []
  · rw [Ref.input_rest x0 x1 x2 x3 x4 r _ k rfl]
    pointwise []

end Row

/-! ## The whole -/

theorem tower_congr {W2 W2' : Fin 200 → Fin 100 → EReal} {b2 : Fin 100 → EReal} {W3 : Fin 100 → Fin 50 → EReal} {b3 : Fin 50 → EReal} {W4 : Fin 50 → Fin 20 → EReal}
    {b4 : Fin 20 → EReal} {W5 : Fin 20 → Fin 2 → EReal} {b5 : Fin 2 → EReal} {h h' : Fin 200 → EReal} (hW : W2 = W2') (hh : h = h') (j : Fin 2) :
    tower W2 b2 W3 b3 W4 b4 W5 b5 h j = tower W2' b2 W3 b3 W4 b4 W5 b5 h' j := by
  subst hW hh; rfl

/-- The kernel's array at an index, of its arguments. -/
theorem netW_apply (h : ∀ j, ((m ((SparseCore.T d).loc main_arg1) : S16384x3.Idx → BitVec 32) j).toNat < 9) (r : Fin 16384) (j : Fin 2) :
    netW (V3 m) d (ix2 j r) = Ref.whole (F := Ideal) (m ((SparseCore.T d).loc main_arg0)) (m ((SparseCore.T d).loc main_arg1)) (m ((SparseCore.T d).loc main_arg2))
          (m ((SparseCore.T d).loc main_arg3)) (m ((SparseCore.T d).loc main_arg4)) (m ((SparseCore.T d).loc main_arg5))
          (m ((SparseCore.T d).loc main_arg6)) (m ((SparseCore.T d).loc main_arg7)) (m ((SparseCore.T d).loc main_arg8))
          (m ((SparseCore.T d).loc main_arg9)) (m ((SparseCore.T d).loc main_arg10)) (m ((SparseCore.T d).loc main_arg11))
          (m ((SparseCore.T d).loc main_arg12)) (m ((SparseCore.T d).loc main_arg13)) (m ((SparseCore.T d).loc main_arg14)) (ix2 r j) := by
  refine Eq.trans ?_ (Ref.whole_apply _ _ _ _ _ _ _ _ _ _ _ _ _ _ _ r j).symm
  show netV _ _ _ _ _ _ _ _ _ _ _ _ _ j r = _
  rw [V3_v4, V3_v6, V3_v7, V3_v8, V3_v9, V3_keeps m d (r := main_arg6) (by decide) (by decide) (by decide),
    V3_keeps m d (r := main_arg8) (by decide) (by decide) (by decide),
    V3_keeps m d (r := main_arg9) (by decide) (by decide) (by decide),
    V3_keeps m d (r := main_arg10) (by decide) (by decide) (by decide),
    V3_keeps m d (r := main_arg11) (by decide) (by decide) (by decide),
    V3_keeps m d (r := main_arg12) (by decide) (by decide) (by decide),
    V3_keeps m d (r := main_arg13) (by decide) (by decide) (by decide),
    V3_keeps m d (r := main_arg14) (by decide) (by decide) (by decide)]
  unfold netV
  refine tower_congr (funext fun k => funext fun o => ?_) (funext fun o => ?_) j
  · exact ValueIdx.transpose_ix2_apply _ _ k o
  · exact first_layer _ _ _ _ _ (fun r k => h (ix2 r k)) _ _ r o

/-- The kernel's result is the reference's function of the kernel's arguments. -/
theorem result_eq (h : ∀ j, ((m ((SparseCore.T d).loc main_arg1) : S16384x3.Idx → BitVec 32) j).toNat < 9) :
    V5 m d (buf main_v11) = Ref.whole (F := Ideal) (m ((SparseCore.T d).loc main_arg0)) (m ((SparseCore.T d).loc main_arg1)) (m ((SparseCore.T d).loc main_arg2))
          (m ((SparseCore.T d).loc main_arg3)) (m ((SparseCore.T d).loc main_arg4)) (m ((SparseCore.T d).loc main_arg5))
          (m ((SparseCore.T d).loc main_arg6)) (m ((SparseCore.T d).loc main_arg7)) (m ((SparseCore.T d).loc main_arg8))
          (m ((SparseCore.T d).loc main_arg9)) (m ((SparseCore.T d).loc main_arg10)) (m ((SparseCore.T d).loc main_arg11))
          (m ((SparseCore.T d).loc main_arg12)) (m ((SparseCore.T d).loc main_arg13)) (m ((SparseCore.T d).loc main_arg14)) := by
  refine (V5_v11 m d).trans (funext fun i : S16384x2.Idx => ?_)
  have e : i = ix2 (i 0 : Fin 16384) (i 1 : Fin 2) := eq_ix2 i
  rw [e]
  exact (ValueIdx.transpose_ix2_apply (netW (V3 m) d) _ _ _).trans (netW_apply m d h _ _)

end Cert.Proof.Emb

end
-- ==== Proof.Equal.lean ====
/-
  The value claim: run from the same arguments, with categories in range, the kernel and the reference end at the same result.
-/
module

public import proofs.«01_k».proof.Proof.Frames
public import proofs.«01_k».proof.Proof.Value

@[expose] public section

set_option maxRecDepth 16384

noncomputable section

namespace Cert.Proof.Emb

open Cert.KernelIdeal Cert.KernelIdeal.Gen
open Idealize.ShloMosaic Idealize.ShloMosaic.TcCoe
open Idealize.SL Idealize.SL.Sem

theorem v11_mem : buf main_v11 ∈ SR := by decide

/-- The kernel's results are the reference's, index by index. -/
theorem algebraic : Cert.algebraic_KernelIdeal_ReferenceIdeal := by
  intro m g m' g' hp hargs
  have hc : ∀ (d : Dev nD) (j : S16384x3.Idx), ((m ((SparseCore.T d).loc main_arg1) : S16384x3.Idx → BitVec 32) j).toNat < 9 :=
    fun d j => cat_below _ _ _ _ _ _ _ _ _ _ _ _ _ _ _ (hp d) j
  refine ⟨fun c => V5 m c (buf main_v11), ?_, ?_⟩
  · exact (θ_run Cert.KernelIdeal.defs _ _).mono (fun r hr c => ⟨hr.1 c _ v11_mem, args_kept m hr c⟩) (run_main (F := Ideal) m g (inRange_of m hc))
  · refine (θ_run Cert.ReferenceIdeal.defs _ _).mono (fun r hr c => ⟨(hr c).1.trans ?_, (hr c).2⟩) (Cert.ReferenceIdeal.Value.run (F := Ideal) m' g')
    obtain ⟨h0, h1, h2, h3, h4, h5, h6, h7, h8, h9, h10, h11, h12, h13, h14⟩ := hargs c
    rw [Ref.res_eq, h0, h1, h2, h3, h4, h5, h6, h7, h8, h9, h10, h11, h12, h13, h14]
    exact (result_eq m c (hc c)).symm

end Cert.Proof.Emb

end
-- ==== Proof.lean ====
/-
  The proof of the claims: the frames of the kernel at both readings and of the reference, the ideal program's agreement with the kernel
  (no operation is rewritten), and the equality of the kernel's result with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_cat_in_range
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts, Cert.Pre_cat_in_range.Gen.facts,
  Emb.frame_kernel, Emb.frame_kernelIdeal, Emb.frame_reference, Emb.frame_reference_pre, trivial, Emb.algebraic⟩

end Cert.Proof

end
